-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).1 = (fun _ => 1#1)
    ∧ (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).2 = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9))).1 = (fun _ => 1#1)
    ∧ (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9))).2.1 = (fun _ => 1#1)
    ∧ (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9))).2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8)) (m ((c.tc : Thread Cert.RouterRefIdeal.nD Cert.RouterRefIdeal.τ).loc Cert.RouterRefIdeal.main_arg9))).1 = (fun _ => 1#1)
    ∧ (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8)) (m ((c.tc : Thread Cert.RouterRefIdeal.nD Cert.RouterRefIdeal.τ).loc Cert.RouterRefIdeal.main_arg9))).2.1 = (fun _ => 1#1)
    ∧ (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7)) (m ((c.tc : Thread Cert.RouterRefIdeal.nD Cert.RouterRefIdeal.τ).loc Cert.RouterRefIdeal.main_arg8)) (m ((c.tc : Thread Cert.RouterRefIdeal.nD Cert.RouterRefIdeal.τ).loc Cert.RouterRefIdeal.main_arg9))).2.2 = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3)
      ∧ r.2.mem ((c.tc : Thread Cert.Scatter.nD Cert.Scatter.τ).loc Cert.Scatter.main_arg4) = m ((c.tc : Thread Cert.Scatter.nD Cert.Scatter.τ).loc Cert.Scatter.main_arg4)
      ∧ r.2.mem ((c.tc : Thread Cert.Scatter.nD Cert.Scatter.τ).loc Cert.Scatter.main_arg5) = m ((c.tc : Thread Cert.Scatter.nD Cert.Scatter.τ).loc Cert.Scatter.main_arg5))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
      ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
      ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3)
      ∧ r.2.mem ((c.tc : Thread Cert.ScatterRefIdeal.nD Cert.ScatterRefIdeal.τ).loc Cert.ScatterRefIdeal.main_arg4) = m ((c.tc : Thread Cert.ScatterRefIdeal.nD Cert.ScatterRefIdeal.τ).loc Cert.ScatterRefIdeal.main_arg4)
      ∧ r.2.mem ((c.tc : Thread Cert.ScatterRefIdeal.nD Cert.ScatterRefIdeal.τ).loc Cert.ScatterRefIdeal.main_arg5) = m ((c.tc : Thread Cert.ScatterRefIdeal.nD Cert.ScatterRefIdeal.τ).loc Cert.ScatterRefIdeal.main_arg5))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7)
      ∧ r.2.mem ((c.tc : Thread Cert.RouterRefIdeal.nD Cert.RouterRefIdeal.τ).loc Cert.RouterRefIdeal.main_arg8) = m ((c.tc : Thread Cert.RouterRefIdeal.nD Cert.RouterRefIdeal.τ).loc Cert.RouterRefIdeal.main_arg8)
      ∧ r.2.mem ((c.tc : Thread Cert.RouterRefIdeal.nD Cert.RouterRefIdeal.τ).loc Cert.RouterRefIdeal.main_arg9) = m ((c.tc : Thread Cert.RouterRefIdeal.nD Cert.RouterRefIdeal.τ).loc Cert.RouterRefIdeal.main_arg9))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v7_0)) (v1 : (c : Dev Cert.InprojIdeal.nD) → Buf (Elt Ideal) ((c.tc : Thread Cert.InprojIdeal.nD Cert.InprojIdeal.τ).loc Cert.InprojIdeal.main_v7_1)) (v2 : (c : Dev Cert.InprojIdeal.nD) → Buf (Elt Ideal) ((c.tc : Thread Cert.InprojIdeal.nD Cert.InprojIdeal.τ).loc Cert.InprojIdeal.main_v7_2)) (v3 : (c : Dev Cert.InprojIdeal.nD) → Buf (Elt Ideal) ((c.tc : Thread Cert.InprojIdeal.nD Cert.InprojIdeal.τ).loc Cert.InprojIdeal.main_v7_3)) (v4 : (c : Dev Cert.InprojIdeal.nD) → Buf (Elt Ideal) ((c.tc : Thread Cert.InprojIdeal.nD Cert.InprojIdeal.τ).loc Cert.InprojIdeal.main_v7_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v7_0) = v0 c
          ∧ r.2.mem ((c.tc : Thread Cert.InprojIdeal.nD Cert.InprojIdeal.τ).loc Cert.InprojIdeal.main_v7_1) = v1 c
          ∧ r.2.mem ((c.tc : Thread Cert.InprojIdeal.nD Cert.InprojIdeal.τ).loc Cert.InprojIdeal.main_v7_2) = v2 c
          ∧ r.2.mem ((c.tc : Thread Cert.InprojIdeal.nD Cert.InprojIdeal.τ).loc Cert.InprojIdeal.main_v7_3) = v3 c
          ∧ r.2.mem ((c.tc : Thread Cert.InprojIdeal.nD Cert.InprojIdeal.τ).loc Cert.InprojIdeal.main_v7_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v51) = v0 c
          ∧ r.2.mem ((c.tc : Thread Cert.InprojRefIdeal.nD Cert.InprojRefIdeal.τ).loc Cert.InprojRefIdeal.main_v52) = v1 c
          ∧ r.2.mem ((c.tc : Thread Cert.InprojRefIdeal.nD Cert.InprojRefIdeal.τ).loc Cert.InprojRefIdeal.main_v53) = v2 c
          ∧ r.2.mem ((c.tc : Thread Cert.InprojRefIdeal.nD Cert.InprojRefIdeal.τ).loc Cert.InprojRefIdeal.main_v54) = v3 c
          ∧ r.2.mem ((c.tc : Thread Cert.InprojRefIdeal.nD Cert.InprojRefIdeal.τ).loc Cert.InprojRefIdeal.main_v55) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v114) = v0 c
          ∧ r.2.mem ((c.tc : Thread Cert.MergeRefIdeal.nD Cert.MergeRefIdeal.τ).loc Cert.MergeRefIdeal.main_v115) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m' ((c.tc : Thread Cert.ScatterRefIdeal.nD Cert.ScatterRefIdeal.τ).loc Cert.ScatterRefIdeal.main_arg0) = m ((c.tc : Thread Cert.ScatterIdeal.nD Cert.ScatterIdeal.τ).loc Cert.ScatterIdeal.main_arg0)
      ∧ m' ((c.tc : Thread Cert.ScatterRefIdeal.nD Cert.ScatterRefIdeal.τ).loc Cert.ScatterRefIdeal.main_arg1) = m ((c.tc : Thread Cert.ScatterIdeal.nD Cert.ScatterIdeal.τ).loc Cert.ScatterIdeal.main_arg1)
      ∧ m' ((c.tc : Thread Cert.ScatterRefIdeal.nD Cert.ScatterRefIdeal.τ).loc Cert.ScatterRefIdeal.main_arg2) = m ((c.tc : Thread Cert.ScatterIdeal.nD Cert.ScatterIdeal.τ).loc Cert.ScatterIdeal.main_arg2)
      ∧ m' ((c.tc : Thread Cert.ScatterRefIdeal.nD Cert.ScatterRefIdeal.τ).loc Cert.ScatterRefIdeal.main_arg3) = m ((c.tc : Thread Cert.ScatterIdeal.nD Cert.ScatterIdeal.τ).loc Cert.ScatterIdeal.main_arg3)
      ∧ m' ((c.tc : Thread Cert.ScatterRefIdeal.nD Cert.ScatterRefIdeal.τ).loc Cert.ScatterRefIdeal.main_arg4) = m ((c.tc : Thread Cert.ScatterIdeal.nD Cert.ScatterIdeal.τ).loc Cert.ScatterIdeal.main_arg4)
      ∧ m' ((c.tc : Thread Cert.ScatterRefIdeal.nD Cert.ScatterRefIdeal.τ).loc Cert.ScatterRefIdeal.main_arg5) = m ((c.tc : Thread Cert.ScatterIdeal.nD Cert.ScatterIdeal.τ).loc Cert.ScatterIdeal.main_arg5)) →
    ∃ (v0 : (c : Dev Cert.ScatterIdeal.nD) → Buf (Elt Ideal) ((c.tc : Thread Cert.ScatterIdeal.nD Cert.ScatterIdeal.τ).loc Cert.ScatterIdeal.main_v0)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v0) = v0 c
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3)
          ∧ r.2.mem ((c.tc : Thread Cert.ScatterIdeal.nD Cert.ScatterIdeal.τ).loc Cert.ScatterIdeal.main_arg4) = m ((c.tc : Thread Cert.ScatterIdeal.nD Cert.ScatterIdeal.τ).loc Cert.ScatterIdeal.main_arg4)
          ∧ r.2.mem ((c.tc : Thread Cert.ScatterIdeal.nD Cert.ScatterIdeal.τ).loc Cert.ScatterIdeal.main_arg5) = m ((c.tc : Thread Cert.ScatterIdeal.nD Cert.ScatterIdeal.τ).loc Cert.ScatterIdeal.main_arg5))
      ∧ θ_run (Cert.ScatterRefIdeal.defs (F := Ideal)) (onTc (τ := Cert.ScatterRefIdeal.τ) (Cert.ScatterRefIdeal.main (F := Ideal))) ⟨m', fun _ => 0, g'⟩ (fun r => ∀ c : Dev Cert.ScatterRefIdeal.nD,
          r.2.mem ((c.tc : Thread Cert.ScatterRefIdeal.nD Cert.ScatterRefIdeal.τ).loc Cert.ScatterRefIdeal.main_v48) = v0 c
          ∧ r.2.mem ((c.tc : Thread Cert.ScatterRefIdeal.nD Cert.ScatterRefIdeal.τ).loc Cert.ScatterRefIdeal.main_arg0) = m' ((c.tc : Thread Cert.ScatterRefIdeal.nD Cert.ScatterRefIdeal.τ).loc Cert.ScatterRefIdeal.main_arg0)
          ∧ r.2.mem ((c.tc : Thread Cert.ScatterRefIdeal.nD Cert.ScatterRefIdeal.τ).loc Cert.ScatterRefIdeal.main_arg1) = m' ((c.tc : Thread Cert.ScatterRefIdeal.nD Cert.ScatterRefIdeal.τ).loc Cert.ScatterRefIdeal.main_arg1)
          ∧ r.2.mem ((c.tc : Thread Cert.ScatterRefIdeal.nD Cert.ScatterRefIdeal.τ).loc Cert.ScatterRefIdeal.main_arg2) = m' ((c.tc : Thread Cert.ScatterRefIdeal.nD Cert.ScatterRefIdeal.τ).loc Cert.ScatterRefIdeal.main_arg2)
          ∧ r.2.mem ((c.tc : Thread Cert.ScatterRefIdeal.nD Cert.ScatterRefIdeal.τ).loc Cert.ScatterRefIdeal.main_arg3) = m' ((c.tc : Thread Cert.ScatterRefIdeal.nD Cert.ScatterRefIdeal.τ).loc Cert.ScatterRefIdeal.main_arg3)
          ∧ r.2.mem ((c.tc : Thread Cert.ScatterRefIdeal.nD Cert.ScatterRefIdeal.τ).loc Cert.ScatterRefIdeal.main_arg4) = m' ((c.tc : Thread Cert.ScatterRefIdeal.nD Cert.ScatterRefIdeal.τ).loc Cert.ScatterRefIdeal.main_arg4)
          ∧ r.2.mem ((c.tc : Thread Cert.ScatterRefIdeal.nD Cert.ScatterRefIdeal.τ).loc Cert.ScatterRefIdeal.main_arg5) = m' ((c.tc : Thread Cert.ScatterRefIdeal.nD Cert.ScatterRefIdeal.τ).loc Cert.ScatterRefIdeal.main_arg5))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v1_0)) (v1 : (c : Dev Cert.GatherIdeal.nD) → Buf (Elt Ideal) ((c.tc : Thread Cert.GatherIdeal.nD Cert.GatherIdeal.τ).loc Cert.GatherIdeal.main_v1_1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0 c
          ∧ r.2.mem ((c.tc : Thread Cert.GatherIdeal.nD Cert.GatherIdeal.τ).loc Cert.GatherIdeal.main_v1_1) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v40) = v0 c
          ∧ r.2.mem ((c.tc : Thread Cert.GatherRefIdeal.nD Cert.GatherRefIdeal.τ).loc Cert.GatherRefIdeal.main_v81) = v1 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v40) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)
      ∧ m' ((c.tc : Thread Cert.RouterRefIdeal.nD Cert.RouterRefIdeal.τ).loc Cert.RouterRefIdeal.main_arg8) = m ((c.tc : Thread Cert.RouterIdeal.nD Cert.RouterIdeal.τ).loc Cert.RouterIdeal.main_arg8)
      ∧ m' ((c.tc : Thread Cert.RouterRefIdeal.nD Cert.RouterRefIdeal.τ).loc Cert.RouterRefIdeal.main_arg9) = m ((c.tc : Thread Cert.RouterIdeal.nD Cert.RouterIdeal.τ).loc Cert.RouterIdeal.main_arg9)) →
    ∃ (v0 : (c : Dev Cert.RouterIdeal.nD) → Buf (Elt Ideal) ((c.tc : Thread Cert.RouterIdeal.nD Cert.RouterIdeal.τ).loc Cert.RouterIdeal.main_v3_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v3_2) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v136) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7)
          ∧ r.2.mem ((c.tc : Thread Cert.RouterRefIdeal.nD Cert.RouterRefIdeal.τ).loc Cert.RouterRefIdeal.main_arg8) = m' ((c.tc : Thread Cert.RouterRefIdeal.nD Cert.RouterRefIdeal.τ).loc Cert.RouterRefIdeal.main_arg8)
          ∧ r.2.mem ((c.tc : Thread Cert.RouterRefIdeal.nD Cert.RouterRefIdeal.τ).loc Cert.RouterRefIdeal.main_arg9) = m' ((c.tc : Thread Cert.RouterRefIdeal.nD Cert.RouterRefIdeal.τ).loc Cert.RouterRefIdeal.main_arg9))

def preserves_Swa_SwaIdeal : Prop :=
  True

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hScatter : Cert.Scatter.Facts) (hScatterIdeal : Cert.ScatterIdeal.Facts) (hScatterRefIdeal : Cert.ScatterRefIdeal.Facts) (hGather : Cert.Gather.Facts) (hGatherIdeal : Cert.GatherIdeal.Facts) (hGatherRefIdeal : Cert.GatherRefIdeal.Facts) (hAda : Cert.Ada.Facts) (hAdaIdeal : Cert.AdaIdeal.Facts) (hAdaRefIdeal : Cert.AdaRefIdeal.Facts) (hRouter : Cert.Router.Facts) (hRouterIdeal : Cert.RouterIdeal.Facts) (hRouterRefIdeal : Cert.RouterRefIdeal.Facts) (hSwa : Cert.Swa.Facts) (hSwaIdeal : Cert.SwaIdeal.Facts) (hPre_finite_ada : Cert.Pre_finite_ada.Facts) (hPre_finite_router : Cert.Pre_finite_router.Facts),
    quiescent_Kernel (hKernel := hKernel)
    ∧ quiescent_KernelIdeal (hKernelIdeal := hKernelIdeal)
    ∧ quiescent_ReferenceIdeal (hReferenceIdeal := hReferenceIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Scatter (hScatter := hScatter)
    ∧ quiescent_ScatterIdeal (hScatterIdeal := hScatterIdeal)
    ∧ quiescent_ScatterRefIdeal (hScatterRefIdeal := hScatterRefIdeal)
    ∧ quiescent_Gather (hGather := hGather)
    ∧ quiescent_GatherIdeal (hGatherIdeal := hGatherIdeal)
    ∧ quiescent_GatherRefIdeal (hGatherRefIdeal := hGatherRefIdeal)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ quiescent_Swa (hSwa := hSwa)
    ∧ quiescent_SwaIdeal (hSwaIdeal := hSwaIdeal)
    ∧ preserves_Kernel_KernelIdeal
    ∧ algebraic_KernelIdeal_ReferenceIdeal (hKernelIdeal := hKernelIdeal) (hReferenceIdeal := hReferenceIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Scatter_ScatterIdeal
    ∧ algebraic_ScatterIdeal_ScatterRefIdeal (hScatterIdeal := hScatterIdeal) (hScatterRefIdeal := hScatterRefIdeal)
    ∧ preserves_Gather_GatherIdeal
    ∧ algebraic_GatherIdeal_GatherRefIdeal (hGatherIdeal := hGatherIdeal) (hGatherRefIdeal := hGatherRefIdeal)
    ∧ preserves_Ada_AdaIdeal
    ∧ algebraic_AdaIdeal_AdaRefIdeal_pre_finite_ada (hAdaIdeal := hAdaIdeal) (hAdaRefIdeal := hAdaRefIdeal) (hPre_finite_ada := hPre_finite_ada)
    ∧ preserves_Router_RouterIdeal
    ∧ algebraic_RouterIdeal_RouterRefIdeal_pre_finite_router (hRouterIdeal := hRouterIdeal) (hRouterRefIdeal := hRouterRefIdeal) (hPre_finite_router := hPre_finite_router)
    ∧ preserves_Swa_SwaIdeal
-- ==== Pre_finite_ada.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S16x1024 : S_.BroadcastsInDim S16x1024 (![] : Fin 0 → Fin S16x1024.rank)
  bcast_S_S4x1024x6144 : S_.BroadcastsInDim S4x1024x6144 (![] : Fin 0 → Fin S4x1024x6144.rank)

variable [Facts]

def fn {F : FTy → Type} [FloatOps F] (main_arg0 : FVec F S16x1024 .f32) (main_arg1 : FVec F S4x1024x6144 .f32) (main_arg2 : FVec F S4x6144 .f32) : IVec S16x1024 1 × IVec S4x1024x6144 1 :=
  let main_cst : FVec F S_ .f32 := constant S_ .f32 0x7F800000#32
  let main_v0 : FVec F S16x1024 .f32 := broadcastInDim S16x1024 ![] bcast_S_S16x1024 main_cst
  let main_v1 : IVec S16x1024 1 := cmpf .olt main_arg0 main_v0
  let main_v2 : FVec F S4x1024x6144 .f32 := Host.absf main_arg1
  let main_cst_0 : FVec F S_ .f32 := constant S_ .f32 0x7F800000#32
  let main_v3 : FVec F S4x1024x6144 .f32 := broadcastInDim S4x1024x6144 ![] bcast_S_S4x1024x6144 main_cst_0
  let main_v4 : IVec S4x1024x6144 1 := cmpf .olt main_v2 main_v3
  (main_v1, main_v4)
-- ==== Pre_finite_router.lean ====
abbrev S8x2304x512 : Shape := ⟨3, ![8, 2304, 512]⟩
abbrev S8x2304x3072 : Shape := ⟨3, ![8, 2304, 3072]⟩
abbrev S8x2304x1024 : Shape := ⟨3, ![8, 2304, 1024]⟩
abbrev S8x2x6x1024 : Shape := ⟨4, ![8, 2, 6, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S8x2x2x1024 : Shape := ⟨4, ![8, 2, 2, 1024]⟩
abbrev S_ : Shape := ⟨0, ![]⟩

class Facts : Prop where
  slices_S8x2x6x1024_S8x2x2x1024_0_0_3_0 : S8x2x6x1024.Slices ![0, 0, 3, 0] S8x2x2x1024
  bcast_S_S8x2x2x1024 : S_.BroadcastsInDim S8x2x2x1024 (![] : Fin 0 → Fin S8x2x2x1024.rank)
  bcast_S_S1024 : S_.BroadcastsInDim S1024 (![] : Fin 0 → Fin S1024.rank)
  bcast_S_S1024x16 : S_.BroadcastsInDim S1024x16 (![] : Fin 0 → Fin S1024x16.rank)

variable [Facts]

def fn {F : FTy → Type} [FloatOps F] (main_arg0 : FVec F S8x2304x512 .f32) (main_arg1 : FVec F S8x2304x512 .f32) (main_arg2 : FVec F S8x2304x512 .f32) (main_arg3 : FVec F S8x2304x3072 .f32) (main_arg4 : FVec F S8x2304x1024 .f32) (main_arg5 : FVec F S8x2x6x1024 .f32) (main_arg6 : FVec F S1024 .f32) (main_arg7 : FVec F S3x512x1024 .f32) (main_arg8 : FVec F S1024x1024 .f32) (main_arg9 : FVec F S1024x16 .f32) : IVec S8x2x2x1024 1 × IVec S1024 1 × IVec S1024x16 1 :=
  let main_v0 : FVec F S8x2x2x1024 .f32 := (extractStridedSlice S8x2x2x1024 ![0, 0, 3, 0] · slices_S8x2x6x1024_S8x2x2x1024_0_0_3_0) main_arg5
  let main_v1 : FVec F S8x2x2x1024 .f32 := Host.absf main_v0
  let main_cst : FVec F S_ .f32 := constant S_ .f32 0x7F800000#32
  let main_v2 : FVec F S8x2x2x1024 .f32 := broadcastInDim S8x2x2x1024 ![] bcast_S_S8x2x2x1024 main_cst
  let main_v3 : IVec S8x2x2x1024 1 := cmpf .olt main_v1 main_v2
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x16 .f32 := Host.absf main_arg9
  let main_cst_1 : FVec F S_ .f32 := constant S_ .f32 0x7F800000#32
  let main_v8 : FVec F S1024x16 .f32 := broadcastInDim S1024x16 ![] bcast_S_S1024x16 main_cst_1
  let main_v9 : IVec S1024x16 1 := cmpf .olt main_v7 main_v8
  (main_v3, main_v6, main_v9)
-- ==== Kernel.lean ====
abbrev S16x2048x1024 : Shape := ⟨3, ![16, 2048, 1024]⟩
abbrev S16x256x1024 : Shape := ⟨3, ![16, 256, 1024]⟩
abbrev S4x16x1024x2048 : Shape := ⟨4, ![4, 16, 1024, 2048]⟩
abbrev S4x16x2048x1024 : Shape := ⟨4, ![4, 16, 2048, 1024]⟩
abbrev S1x2048x1024 : Shape := ⟨3, ![1, 2048, 1024]⟩
abbrev S1x256x1024 : Shape := ⟨3, ![1, 256, 1024]⟩
abbrev S1x1x1024x512 : Shape := ⟨4, ![1, 1, 1024, 512]⟩
abbrev S1x1x512x1024 : Shape := ⟨4, ![1, 1, 512, 1024]⟩
abbrev S2048x1024 : Shape := ⟨2, ![2048, 1024]⟩
abbrev S256x1024 : Shape := ⟨2, ![256, 1024]⟩
abbrev S1024x512 : Shape := ⟨2, ![1024, 512]⟩
abbrev S512x1024 : Shape := ⟨2, ![512, 1024]⟩
abbrev S1x512x1024 : Shape := ⟨3, ![1, 512, 1024]⟩
abbrev S512x512 : Shape := ⟨2, ![512, 512]⟩
abbrev S256x512 : Shape := ⟨2, ![256, 512]⟩

abbrev nBuf : Space → Nat
  | .hbm => 7
  | .vmem => 19
  | .smem => 0
  | _ => 0

abbrev bufTy : (tb : Table) → Fin (tcTables nBuf tb) → BufTy
  | .hbm, ⟨0, _⟩ => ⟨S16x2048x1024, .bf16⟩
  | .hbm, ⟨1, _⟩ => ⟨S16x256x1024, .bf16⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S16x2048x1024, .bf16⟩
  | .hbm, ⟨6, _⟩ => ⟨S16x256x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S1x2048x1024, .bf16⟩
  | .local _ .vmem, ⟨11, _⟩ => ⟨S1x2048x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S2048x1024, .f32⟩
  | .local _ .vmem, ⟨15, _⟩ => ⟨S256x1024, .f32⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v136 : BitVec 1 := Scalar.cmpi .eq arg1 c3_i32
  let v137 : BitVec 32 := Scalar.extui v136
  let c0_i32_109 : BitVec 32 := 0#32
  let v138 : BitVec 1 := Scalar.cmpi .ne v137 c0_i32_109
  v138

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16x2048x1024 : Shape := ⟨3, ![16, 2048, 1024]⟩
abbrev S16x256x1024 : Shape := ⟨3, ![16, 256, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x2048 : Shape := ⟨3, ![16, 2048, 2048]⟩
abbrev S_ : Shape := ⟨0, ![]⟩
abbrev S16x256x2048 : Shape := ⟨3, ![16, 256, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x256x1024, .bf16⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S1x16x1024x2048, .f32⟩
  | .hbm, ⟨6, _⟩ => ⟨S16x1024x2048, .f32⟩
  | .hbm, ⟨7, _⟩ => ⟨S1x16x1024x2048, .f32⟩
  | .hbm, ⟨8, _⟩ => ⟨S16x1024x2048, .f32⟩
  | .hbm, ⟨9, _⟩ => ⟨S1x16x2048x1024, .f32⟩
  | .hbm, ⟨10, _⟩ => ⟨S16x2048x1024, .f32⟩
  | .hbm, ⟨11, _⟩ => ⟨S16x2048x1024, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x1024, .f32⟩
  | .hbm, ⟨25, _⟩ => ⟨S16x2048x1024, .bf16⟩
  | .hbm, ⟨26, _⟩ => ⟨S16x256x1024, .f32⟩
  | .hbm, ⟨27, _⟩ => ⟨S16x256x2048, .f32⟩
  | .hbm, ⟨28, _⟩ => ⟨S16x256x2048, .f32⟩
  | .hbm, ⟨29, _⟩ => ⟨S16x256x2048, .f32⟩
  | .hbm, ⟨30, _⟩ => ⟨S_, .f32⟩
  | .hbm, ⟨31, _⟩ => ⟨S16x256x2048, .f32⟩
  | .hbm, ⟨32, _⟩ => ⟨S16x256x2048, .f32⟩
  | .hbm, ⟨33, _⟩ => ⟨S_, .f32⟩
  | .hbm, ⟨34, _⟩ => ⟨S16x256x2048, .f32⟩
  | .hbm, ⟨35, _⟩ => ⟨S16x256x2048, .f32⟩
  | .hbm, ⟨36, _⟩ => ⟨S16x256x2048, .f32⟩
  | .hbm, ⟨37, _⟩ => ⟨S16x256x2048, .f32⟩
  | .hbm, ⟨38, _⟩ => ⟨S16x256x2048, .f32⟩
  | .hbm, ⟨39, _⟩ => ⟨S16x256x1024, .f32⟩
  | .hbm, ⟨40, _⟩ => ⟨S16x256x1024, .bf16⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩

abbrev nD : Nat := 1
abbrev τ : Topo := Topo.v7x

variable {F : FTy → Type} [FloatOps F]
-- ==== Inproj.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x6928 : Shape := ⟨2, ![1024, 6928]⟩
abbrev S1024x2048 : Shape := ⟨2, ![1024, 2048]⟩
abbrev S1024x4864 : Shape := ⟨2, ![1024, 4864]⟩
abbrev S1024x6912 : Shape := ⟨2, ![1024, 6912]⟩
abbrev S1024x16 : Shape := ⟨2, ![1024, 16]⟩
abbrev S1x1024 : Shape := ⟨2, ![1, 1024]⟩
abbrev S8x2304x2048 : Shape := ⟨3, ![8, 2304, 2048]⟩
abbrev S8x2304x768 : Shape := ⟨3, ![8, 2304, 768]⟩
abbrev S8x2304x3072 : Shape := ⟨3, ![8, 2304, 3072]⟩
abbrev S8x2304x16 : Shape := ⟨3, ![8, 2304, 16]⟩
abbrev S1x256x1024 : Shape := ⟨3, ![1, 256, 1024]⟩
abbrev S1x1x6x1024 : Shape := ⟨4, ![1, 1, 6, 1024]⟩
abbrev S1x256x2048 : Shape := ⟨3, ![1, 256, 2048]⟩
abbrev S1x256x768 : Shape := ⟨3, ![1, 256, 768]⟩
abbrev S1x256x3072 : Shape := ⟨3, ![1, 256, 3072]⟩
abbrev S1x256x16 : Shape := ⟨3, ![1, 256, 16]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S1024x256 : Shape := ⟨2, ![1024, 256]⟩
abbrev S256x256 : Shape := ⟨2, ![256, 256]⟩
abbrev S1x256x256 : Shape := ⟨3, ![1, 256, 256]⟩
abbrev S256x16 : Shape := ⟨2, ![256, 16]⟩

abbrev nBuf : Space → Nat
  | .hbm => 16
  | .vmem => 17
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x6928, .f32⟩
  | .hbm, ⟨4, _⟩ => ⟨S1024x2048, .f32⟩
  | .hbm, ⟨5, _⟩ => ⟨S1024x4864, .f32⟩
  | .hbm, ⟨6, _⟩ => ⟨S1024x6912, .f32⟩
  | .hbm, ⟨7, _⟩ => ⟨S1024x6912, .bf16⟩
  | .hbm, ⟨8, _⟩ => ⟨S1024x16, .f32⟩
  | .hbm, ⟨9, _⟩ => ⟨S1024x16, .bf16⟩
  | .hbm, ⟨10, _⟩ => ⟨S1x1024, .f32⟩
  | .hbm, ⟨11, _⟩ => ⟨S8x2304x2048, .f32⟩
  | .hbm, ⟨12, _⟩ => ⟨S8x2304x768, .f32⟩
  | .hbm, ⟨13, _⟩ => ⟨S8x2304x1024, .f32⟩
  | .hbm, ⟨14, _⟩ => ⟨S8x2304x3072, .f32⟩
  | .hbm, ⟨15, _⟩ => ⟨S8x2304x16, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x6912, .bf16⟩
  | .local _ .vmem, ⟨6, _⟩ => ⟨S1024x16, .bf16⟩
  | .local _ .vmem, ⟨7, _⟩ => ⟨S1x256x2048, .f32⟩
  | .local _ .vmem, ⟨8, _⟩ => ⟨S1x256x2048, .f32⟩
  | .local _ .vmem, ⟨9, _⟩ => ⟨S1x256x768, .f32⟩
  | .local _ .vmem, ⟨10, _⟩ => ⟨S1x256x768, .f32⟩
  | .local _ .vmem, ⟨11, _⟩ => ⟨S1x256x1024, .f32⟩
  | .local _ .vmem, ⟨12, _⟩ => ⟨S1x256x1024, .f32⟩
  | .local _ .vmem, ⟨13, _⟩ => ⟨S1x256x3072, .f32⟩
  | .local _ .vmem, ⟨14, _⟩ => ⟨S1x256x3072, .f32⟩
  | .local _ .vmem, ⟨15, _⟩ => ⟨S1x256x16, .f32⟩
  | .local _ .vmem, ⟨16, _⟩ => ⟨S1x256x16, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InprojRefIdeal.lean ====
abbrev S8x2304x1024 : Shape := ⟨3, ![8, 2304, 1024]⟩
abbrev S8x2x6x1024 : Shape := ⟨4, ![8, 2, 6, 1024]⟩
abbrev S1024 : Shape := ⟨1, ![1024]⟩
abbrev S1024x6928 : Shape := ⟨2, ![1024, 6928]⟩
abbrev S8x256x1024 : Shape := ⟨3, ![8, 256, 1024]⟩
abbrev S8x1x6x1024 : Shape := ⟨4, ![8, 1, 6, 1024]⟩
abbrev S8x6x1024 : Shape := ⟨3, ![8, 6, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x256x6928 : Shape := ⟨3, ![8, 256, 6928]⟩
abbrev S8x2048x1024 : Shape := ⟨3, ![8, 2048, 1024]⟩
abbrev S8x2048 : Shape := ⟨2, ![8, 2048]⟩
abbrev S8x2048x1 : Shape := ⟨3, ![8, 2048, 1]⟩
abbrev S8x2048x6928 : Shape := ⟨3, ![8, 2048, 6928]⟩
abbrev S8x2304x6928 : Shape := ⟨3, ![8, 2304, 6928]⟩
abbrev S8x2304x2048 : Shape := ⟨3, ![8, 2304, 2048]⟩
abbrev S8x2304x768 : Shape := ⟨3, ![8, 2304, 768]⟩
abbrev S8x2304x3072 : Shape := ⟨3, ![8, 2304, 3072]⟩
abbrev S8x2304x16 : Shape := ⟨3, ![8, 2304, 16]⟩

abbrev nBuf : Space → Nat
  | .hbm => 68
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1024, .f32⟩
  | .hbm, ⟨3, _⟩ => ⟨S1024x6928, .f32⟩
  | .hbm, ⟨4, _⟩ => ⟨S8x256x1024, .f32⟩
  | .hbm, ⟨5, _⟩ => ⟨S8x1x6x1024, .f32⟩
  | .hbm, ⟨6, _⟩ => ⟨S8x6x1024, .f32⟩
  | .hbm, ⟨7, _⟩ => ⟨S8x256x1024, .f32⟩
  | .hbm, ⟨8, _⟩ => ⟨S_, .f32⟩
  | .hbm, ⟨9, _⟩ => ⟨S8x256, .f32⟩
  | .hbm, ⟨10, _⟩ => ⟨S8x256x1, .f32⟩
  | .hbm, ⟨11, _⟩ => ⟨S_, .f32⟩
  | .hbm, ⟨12, _⟩ => ⟨S8x256x1, .f32⟩
  | .hbm, ⟨13, _⟩ => ⟨S8x256x1, .f32⟩
  | .hbm, ⟨14, _⟩ => ⟨S_, .f32⟩
  | .hbm, ⟨15, _⟩ => ⟨S8x256x1, .f32⟩
  | .hbm, ⟨16, _⟩ => ⟨S8x256x1, .f32⟩
  | .hbm, ⟨17, _⟩ => ⟨S8x256x1, .f32⟩
  | .hbm, ⟨18, _⟩ => ⟨S8x256x1024, .f32⟩
  | .hbm, ⟨19, _⟩ => ⟨S8x256x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S8x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x6928, .f32⟩
  | .hbm, ⟨33, _⟩ => ⟨S8x2048x1024, .f32⟩
  | .hbm, ⟨34, _⟩ => ⟨S8x1x6x1024, .f32⟩
  | .hbm, ⟨35, _⟩ => ⟨S8x6x1024, .f32⟩
  | .hbm, ⟨36, _⟩ => ⟨S8x2048x1024, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S8x1x1024, .f32⟩
  | .hbm, ⟨53, _⟩ => ⟨S8x1x1024, .f32⟩
  | .hbm, ⟨54, _⟩ => ⟨S_, .f32⟩
  | .hbm, ⟨55, _⟩ => ⟨S8x1x1024, .f32⟩
  | .hbm, ⟨56, _⟩ => ⟨S8x1x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x6928, .f32⟩
  | .hbm, ⟨62, _⟩ => ⟨S8x2304x6928, .f32⟩
  | .hbm, ⟨63, _⟩ => ⟨S8x2304x2048, .f32⟩
  | .hbm, ⟨64, _⟩ => ⟨S8x2304x768, .f32⟩
  | .hbm, ⟨65, _⟩ => ⟨S8x2304x1024, .f32⟩
  | .hbm, ⟨66, _⟩ => ⟨S8x2304x3072, .f32⟩
  | .hbm, ⟨67, _⟩ => ⟨S8x2304x16, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Merge.lean ====
abbrev S8x2304x512 : Shape := ⟨3, ![8, 2304, 512]⟩
abbrev S8x2304x3072 : Shape := ⟨3, ![8, 2304, 3072]⟩
abbrev S8x2304x1024 : Shape := ⟨3, ![8, 2304, 1024]⟩
abbrev S8x2x6x1024 : Shape := ⟨4, ![8, 2, 6, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S1x1024 : Shape := ⟨2, ![1, 1024]⟩
abbrev S8x2304x16 : Shape := ⟨3, ![8, 2304, 16]⟩
abbrev S1x256x512 : Shape := ⟨3, ![1, 256, 512]⟩
abbrev S1x256x3072 : Shape := ⟨3, ![1, 256, 3072]⟩
abbrev S1x256x1024 : Shape := ⟨3, ![1, 256, 1024]⟩
abbrev S1x1x6x1024 : Shape := ⟨4, ![1, 1, 6, 1024]⟩
abbrev S1x256x16 : Shape := ⟨3, ![1, 256, 16]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S6x1024 : Shape := ⟨2, ![6, 1024]⟩
abbrev S256 : Shape := ⟨1, ![256]⟩
abbrev S256x1 : Shape := ⟨2, ![256, 1]⟩
abbrev S256x16 : Shape := ⟨2, ![256, 16]⟩

abbrev nBuf : Space → Nat
  | .hbm => 16
  | .vmem => 22
  | .smem => 0
  | _ => 0

abbrev bufTy : (tb : Table) → Fin (tcTables nBuf tb) → BufTy
  | .hbm, ⟨0, _⟩ => ⟨S8x2304x512, .f32⟩
  | .hbm, ⟨1, _⟩ => ⟨S8x2304x512, .f32⟩
  | .hbm, ⟨2, _⟩ => ⟨S8x2304x512, .f32⟩
  | .hbm, ⟨3, _⟩ => ⟨S8x2304x3072, .f32⟩
  | .hbm, ⟨4, _⟩ => ⟨S8x2304x1024, .f32⟩
  | .hbm, ⟨5, _⟩ => ⟨S8x2x6x1024, .f32⟩
  | .hbm, ⟨6, _⟩ => ⟨S1024, .f32⟩
  | .hbm, ⟨7, _⟩ => ⟨S3x512x1024, .f32⟩
  | .hbm, ⟨8, _⟩ => ⟨S1024x1024, .f32⟩
  | .hbm, ⟨9, _⟩ => ⟨S1024x16, .f32⟩
  | .hbm, ⟨10, _⟩ => ⟨S1x1024, .f32⟩
  | .hbm, ⟨11, _⟩ => ⟨S3x512x1024, .bf16⟩
  | .hbm, ⟨12, _⟩ => ⟨S1024x1024, .bf16⟩
  | .hbm, ⟨13, _⟩ => ⟨S8x2304x1024, .f32⟩
  | .hbm, ⟨14, _⟩ => ⟨S8x2304x1024, .bf16⟩
  | .hbm, ⟨15, _⟩ => ⟨S8x2304x16, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x3072, .f32⟩
  | .local _ .vmem, ⟨7, _⟩ => ⟨S1x256x3072, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x1024, .f32⟩
  | .local _ .vmem, ⟨13, _⟩ => ⟨S3x512x1024, .bf16⟩
  | .local _ .vmem, ⟨14, _⟩ => ⟨S1024x1024, .bf16⟩
  | .local _ .vmem, ⟨15, _⟩ => ⟨S1024x16, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x16, .f32⟩
  | .local _ .vmem, ⟨21, _⟩ => ⟨S1x256x16, .f32⟩
  | _, _ => ⟨S8x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRefIdeal.lean ====
abbrev S8x2304x512 : Shape := ⟨3, ![8, 2304, 512]⟩
abbrev S8x2304x3072 : Shape := ⟨3, ![8, 2304, 3072]⟩
abbrev S8x2304x1024 : Shape := ⟨3, ![8, 2304, 1024]⟩
abbrev S8x2x6x1024 : Shape := ⟨4, ![8, 2, 6, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S8x1x6x1024 : Shape := ⟨4, ![8, 1, 6, 1024]⟩
abbrev S8x6x1024 : Shape := ⟨3, ![8, 6, 1024]⟩
abbrev S8x256x3072 : Shape := ⟨3, ![8, 256, 3072]⟩
abbrev S_ : Shape := ⟨0, ![]⟩
abbrev S8x256x1024 : Shape := ⟨3, ![8, 256, 1024]⟩
abbrev S8x256x512 : Shape := ⟨3, ![8, 256, 512]⟩
abbrev S1x512x1024 : Shape := ⟨3, ![1, 512, 1024]⟩
abbrev S512x1024 : Shape := ⟨2, ![512, 1024]⟩
abbrev S8x1x1024 : Shape := ⟨3, ![8, 1, 1024]⟩
abbrev S8x256 : Shape := ⟨2, ![8, 256]⟩
abbrev S8x256x1 : Shape := ⟨3, ![8, 256, 1]⟩
abbrev S1x1x1024 : Shape := ⟨3, ![1, 1, 1024]⟩
abbrev S8x2048x3072 : Shape := ⟨3, ![8, 2048, 3072]⟩
abbrev S8x2048x1024 : Shape := ⟨3, ![8, 2048, 1024]⟩
abbrev S8x2048x512 : Shape := ⟨3, ![8, 2048, 512]⟩
abbrev S8x2048 : Shape := ⟨2, ![8, 2048]⟩
abbrev S8x2048x1 : Shape := ⟨3, ![8, 2048, 1]⟩

abbrev nBuf : Space → Nat
  | .hbm => 138
  | .vmem => 0
  | .smem => 0
  | _ => 0

abbrev hbmTy0_0 (i : Nat) : BufTy := match i % 128 with
  | 0 => ⟨S8x2304x512, .f32⟩
  | 1 => ⟨S8x2304x512, .f32⟩
  | 2 => ⟨S8x2304x512, .f32⟩
  | 3 => ⟨S8x2304x3072, .f32⟩
  | 4 => ⟨S8x2304x1024, .f32⟩
  | 5 => ⟨S8x2x6x1024, .f32⟩
  | 6 => ⟨S1024, .f32⟩
  | 7 => ⟨S3x512x1024, .f32⟩
  | 8 => ⟨S1024x1024, .f32⟩
  | 9 => ⟨S1024x16, .f32⟩
  | 10 => ⟨S8x1x6x1024, .f32⟩
  | 11 => ⟨S8x6x1024, .f32⟩
  | 12 => ⟨S8x256x3072, .f32⟩
  | 13 => ⟨S8x256x3072, .f32⟩
  | 14 => ⟨S8x256x3072, .f32⟩
  | 15 => ⟨S_, .f32⟩
  | 16 => ⟨S8x256x3072, .f32⟩
  | 17 => ⟨S8x256x3072, .f32⟩
  | 18 => ⟨S_, .f32⟩
  | 19 => ⟨S8x256x3072, .f32⟩
  | 20 => ⟨S8x256x3072, .f32⟩
  | 21 => ⟨S8x256x1024, .f32⟩
  | 22 => ⟨S8x256x1024, .f32⟩
  | 23 => ⟨S8x256x1024, .f32⟩
  | 24 => ⟨S8x256x512, .f32⟩
  | 25 => ⟨S1x512x1024, .f32⟩
  | 26 => ⟨S512x1024, .f32⟩
  | 27 => ⟨S8x256x1024, .f32⟩
  | 28 => ⟨S8x256x1024, .f32⟩
  | 29 => ⟨S8x256x512, .f32⟩
  | 30 => ⟨S1x512x1024, .f32⟩
  | 31 => ⟨S512x1024, .f32⟩
  | 32 => ⟨S8x256x1024, .f32⟩
  | 33 => ⟨S8x256x1024, .f32⟩
  | 34 => ⟨S8x256x1024, .f32⟩
  | 35 => ⟨S8x256x512, .f32⟩
  | 36 => ⟨S1x512x1024, .f32⟩
  | 37 => ⟨S512x1024, .f32⟩
  | 38 => ⟨S8x256x1024, .f32⟩
  | 39 => ⟨S8x256x1024, .f32⟩
  | 40 => ⟨S8x256x1024, .f32⟩
  | 41 => ⟨S8x256x1024, .f32⟩
  | 42 => ⟨S8x1x1024, .f32⟩
  | 43 => ⟨S8x256x1024, .f32⟩
  | 44 => ⟨S8x256x1024, .f32⟩
  | 45 => ⟨S8x256x1024, .f32⟩
  | 46 => ⟨S8x256x1024, .f32⟩
  | 47 => ⟨S8x256x1024, .f32⟩
  | 48 => ⟨S_, .f32⟩
  | 49 => ⟨S8x256, .f32⟩
  | 50 => ⟨S8x256x1, .f32⟩
  | 51 => ⟨S_, .f32⟩
  | 52 => ⟨S8x256x1, .f32⟩
  | 53 => ⟨S8x256x1, .f32⟩
  | 54 => ⟨S_, .f32⟩
  | 55 => ⟨S8x256x1, .f32⟩
  | 56 => ⟨S8x256x1, .f32⟩
  | 57 => ⟨S8x256x1, .f32⟩
  | 58 => ⟨S8x256x1024, .f32⟩
  | 59 => ⟨S8x256x1024, .f32⟩
  | 60 => ⟨S1x1x1024, .f32⟩
  | 61 => ⟨S8x256x1024, .f32⟩
  | 62 => ⟨S8x256x1024, .f32⟩
  | 63 => ⟨S8x1x1024, .f32⟩
  | 64 => ⟨S8x1x1024, .f32⟩
  | 65 => ⟨S_, .f32⟩
  | 66 => ⟨S8x1x1024, .f32⟩
  | 67 => ⟨S8x1x1024, .f32⟩
  | 68 => ⟨S8x256x1024, .f32⟩
  | 69 => ⟨S8x256x1024, .f32⟩
  | 70 => ⟨S8x256x1024, .f32⟩
  | 71 => ⟨S8x256x1024, .f32⟩
  | 72 => ⟨S8x256x1024, .bf16⟩
  | 73 => ⟨S8x1x6x1024, .f32⟩
  | 74 => ⟨S8x6x1024, .f32⟩
  | 75 => ⟨S8x2048x3072, .f32⟩
  | 76 => ⟨S8x2048x3072, .f32⟩
  | 77 => ⟨S8x2048x3072, .f32⟩
  | 78 => ⟨S_, .f32⟩
  | 79 => ⟨S8x2048x3072, .f32⟩
  | 80 => ⟨S8x2048x3072, .f32⟩
  | 81 => ⟨S_, .f32⟩
  | 82 => ⟨S8x2048x3072, .f32⟩
  | 83 => ⟨S8x2048x3072, .f32⟩
  | 84 => ⟨S8x2048x1024, .f32⟩
  | 85 => ⟨S8x2048x1024, .f32⟩
  | 86 => ⟨S8x2048x1024, .f32⟩
  | 87 => ⟨S8x2048x512, .f32⟩
  | 88 => ⟨S1x512x1024, .f32⟩
  | 89 => ⟨S512x1024, .f32⟩
  | 90 => ⟨S8x2048x1024, .f32⟩
  | 91 => ⟨S8x2048x1024, .f32⟩
  | 92 => ⟨S8x2048x512, .f32⟩
  | 93 => ⟨S1x512x1024, .f32⟩
  | 94 => ⟨S512x1024, .f32⟩
  | 95 => ⟨S8x2048x1024, .f32⟩
  | 96 => ⟨S8x2048x1024, .f32⟩
  | 97 => ⟨S8x2048x1024, .f32⟩
  | 98 => ⟨S8x2048x512, .f32⟩
  | 99 => ⟨S1x512x1024, .f32⟩
  | 100 => ⟨S512x1024, .f32⟩
  | 101 => ⟨S8x2048x1024, .f32⟩
  | 102 => ⟨S8x2048x1024, .f32⟩
  | 103 => ⟨S8x2048x1024, .f32⟩
  | 104 => ⟨S8x2048x1024, .f32⟩
  | 105 => ⟨S8x1x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S8x2048x1024, .f32⟩
  | 111 => ⟨S_, .f32⟩
  | 112 => ⟨S8x2048, .f32⟩
  | 113 => ⟨S8x2048x1, .f32⟩
  | 114 => ⟨S_, .f32⟩
  | 115 => ⟨S8x2048x1, .f32⟩
  | 116 => ⟨S8x2048x1, .f32⟩
  | 117 => ⟨S_, .f32⟩
  | 118 => ⟨S8x2048x1, .f32⟩
  | 119 => ⟨S8x2048x1, .f32⟩
  | 120 => ⟨S8x2048x1, .f32⟩
  | 121 => ⟨S8x2048x1024, .f32⟩
  | 122 => ⟨S8x2048x1024, .f32⟩
  | 123 => ⟨S1x1x1024, .f32⟩
  | 124 => ⟨S8x2048x1024, .f32⟩
  | 125 => ⟨S8x2048x1024, .f32⟩
  | 126 => ⟨S8x1x1024, .f32⟩
  | 127 => ⟨S8x1x1024, .f32⟩
  | _ => ⟨S8x2304x512, .f32⟩

abbrev hbmTy0_1 (i : Nat) : BufTy := match i % 128 with
  | 0 => ⟨S_, .f32⟩
  | 1 => ⟨S8x1x1024, .f32⟩
  | 2 => ⟨S8x1x1024, .f32⟩
  | 3 => ⟨S8x2048x1024, .f32⟩
  | 4 => ⟨S8x2048x1024, .f32⟩
  | 5 => ⟨S8x2048x1024, .f32⟩
  | 6 => ⟨S8x2048x1024, .f32⟩
  | 7 => ⟨S8x2048x1024, .bf16⟩
  | 8 => ⟨S8x2304x1024, .f32⟩
  | 9 => ⟨S8x2304x1024, .bf16⟩
  | _ => ⟨S8x2304x512, .f32⟩

abbrev hbmTy (i : Nat) : BufTy := match i / 128 with
  | 0 => hbmTy0_0 i
  | 1 => hbmTy0_1 i
  | _ => ⟨S8x2304x512, .f32⟩

abbrev bufTy : (tb : Table) → Fin (tcTables nBuf tb) → BufTy
  | .hbm, ⟨i, _⟩ => hbmTy i
  | _, _ => ⟨S8x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_7 : Ref sig .tc := ⟨.hbm, 111, rfl⟩
abbrev main_v93 : Ref sig .tc := ⟨.hbm, 112, rfl⟩
abbrev main_v94 : Ref sig .tc := ⟨.hbm, 113, rfl⟩
abbrev main_cst_8 : Ref sig .tc := ⟨.hbm, 114, rfl⟩
abbrev main_v95 : Ref sig .tc := ⟨.hbm, 115, rfl⟩
abbrev main_v96 : Ref sig .tc := ⟨.hbm, 116, rfl⟩
abbrev main_cst_9 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_10 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩

abbrev nD : Nat := 1
abbrev τ : Topo := Topo.v7x

variable {F : FTy → Type} [FloatOps F]
-- ==== Scatter.lean ====
abbrev S16x2048x1024 : Shape := ⟨3, ![16, 2048, 1024]⟩
abbrev S16x256x1024 : Shape := ⟨3, ![16, 256, 1024]⟩
abbrev S8x2304x16 : Shape := ⟨3, ![8, 2304, 16]⟩
abbrev S8x2304x1024 : Shape := ⟨3, ![8, 2304, 1024]⟩
abbrev S8x2x1024 : Shape := ⟨3, ![8, 2, 1024]⟩
abbrev S1x256x1024 : Shape := ⟨3, ![1, 256, 1024]⟩
abbrev S1x32x1024 : Shape := ⟨3, ![1, 32, 1024]⟩
abbrev S1x2304x16 : Shape := ⟨3, ![1, 2304, 16]⟩
abbrev S1x2304x1024 : Shape := ⟨3, ![1, 2304, 1024]⟩
abbrev S1x2x1024 : Shape := ⟨3, ![1, 2, 1024]⟩
abbrev S256x16 : Shape := ⟨2, ![256, 16]⟩
abbrev S2304x1024 : Shape := ⟨2, ![2304, 1024]⟩
abbrev S1x256x16 : Shape := ⟨3, ![1, 256, 16]⟩
abbrev S256 : Shape := ⟨1, ![256]⟩
abbrev S256x1 : Shape := ⟨2, ![256, 1]⟩
abbrev S256x32 : Shape := ⟨2, ![256, 32]⟩
abbrev S32x1024 : Shape := ⟨2, ![32, 1024]⟩
abbrev S256x1024 : Shape := ⟨2, ![256, 1024]⟩
abbrev S256x256 : Shape := ⟨2, ![256, 256]⟩
abbrev S1x1x1024 : Shape := ⟨3, ![1, 1, 1024]⟩
abbrev S1x1024 : Shape := ⟨2, ![1, 1024]⟩
abbrev S1x2048x1024 : Shape := ⟨3, ![1, 2048, 1024]⟩
abbrev S2048x1024 : Shape := ⟨2, ![2048, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16x2048x1024, .bf16⟩
  | .hbm, ⟨1, _⟩ => ⟨S16x256x1024, .bf16⟩
  | .hbm, ⟨2, _⟩ => ⟨S8x2304x16, .i32⟩
  | .hbm, ⟨3, _⟩ => ⟨S8x2304x16, .f32⟩
  | .hbm, ⟨4, _⟩ => ⟨S8x2304x1024, .f32⟩
  | .hbm, ⟨5, _⟩ => ⟨S8x2x1024, .f32⟩
  | .hbm, ⟨6, _⟩ => ⟨S8x2304x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x2304x16, .i32⟩
  | .local _ .vmem, ⟨5, _⟩ => ⟨S1x2304x16, .i32⟩
  | .local _ .vmem, ⟨6, _⟩ => ⟨S1x2304x16, .f32⟩
  | .local _ .vmem, ⟨7, _⟩ => ⟨S1x2304x16, .f32⟩
  | .local _ .vmem, ⟨8, _⟩ => ⟨S1x2304x1024, .f32⟩
  | .local _ .vmem, ⟨9, _⟩ => ⟨S1x2304x1024, .f32⟩
  | .local _ .vmem, ⟨10, _⟩ => ⟨S1x2x1024, .f32⟩
  | .local _ .vmem, ⟨11, _⟩ => ⟨S1x2x1024, .f32⟩
  | .local _ .vmem, ⟨12, _⟩ => ⟨S1x2304x1024, .f32⟩
  | .local _ .vmem, ⟨13, _⟩ => ⟨S1x2304x1024, .f32⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ScatterRefIdeal.lean ====
abbrev S16x2048x1024 : Shape := ⟨3, ![16, 2048, 1024]⟩
abbrev S16x256x1024 : Shape := ⟨3, ![16, 256, 1024]⟩
abbrev S8x2304x16 : Shape := ⟨3, ![8, 2304, 16]⟩
abbrev S8x2304x1024 : Shape := ⟨3, ![8, 2304, 1024]⟩
abbrev S8x2x1024 : Shape := ⟨3, ![8, 2, 1024]⟩
abbrev S8x1x1024 : Shape := ⟨3, ![8, 1, 1024]⟩
abbrev S16x8x32x1024 : Shape := ⟨4, ![16, 8, 32, 1024]⟩
abbrev S8x16x32x1024 : Shape := ⟨4, ![8, 16, 32, 1024]⟩
abbrev S8x256x16 : Shape := ⟨3, ![8, 256, 16]⟩
abbrev S8x16x256 : Shape := ⟨3, ![8, 16, 256]⟩
abbrev S8x16x256x1 : Shape := ⟨4, ![8, 16, 256, 1]⟩
abbrev S_ : Shape := ⟨0, ![]⟩
abbrev S8x16x256x1024 : Shape := ⟨4, ![8, 16, 256, 1024]⟩
abbrev S8x256x1024 : Shape := ⟨3, ![8, 256, 1024]⟩
abbrev S16x8x256x1024 : Shape := ⟨4, ![16, 8, 256, 1024]⟩
abbrev S8x2048x16 : Shape := ⟨3, ![8, 2048, 16]⟩
abbrev S8x16x2048 : Shape := ⟨3, ![8, 16, 2048]⟩
abbrev S8x16x2048x1 : Shape := ⟨4, ![8, 16, 2048, 1]⟩
abbrev S8x16x2048x1024 : Shape := ⟨4, ![8, 16, 2048, 1024]⟩
abbrev S8x2048x1024 : Shape := ⟨3, ![8, 2048, 1024]⟩

abbrev nBuf : Space → Nat
  | .hbm => 83
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S16x256x1024, .bf16⟩
  | .hbm, ⟨2, _⟩ => ⟨S8x2304x16, .i32⟩
  | .hbm, ⟨3, _⟩ => ⟨S8x2304x16, .f32⟩
  | .hbm, ⟨4, _⟩ => ⟨S8x2304x1024, .f32⟩
  | .hbm, ⟨5, _⟩ => ⟨S8x2x1024, .f32⟩
  | .hbm, ⟨6, _⟩ => ⟨S8x1x1024, .f32⟩
  | .hbm, ⟨7, _⟩ => ⟨S16x256x1024, .f32⟩
  | .hbm, ⟨8, _⟩ => ⟨S16x8x32x1024, .f32⟩
  | .hbm, ⟨9, _⟩ => ⟨S8x16x32x1024, .f32⟩
  | .hbm, ⟨10, _⟩ => ⟨S8x256x16, .i32⟩
  | .hbm, ⟨11, _⟩ => ⟨S8x16x256, .i32⟩
  | .hbm, ⟨12, _⟩ => ⟨S8x16x256x1, .i32⟩
  | .hbm, ⟨13, _⟩ => ⟨S8x256x16, .f32⟩
  | .hbm, ⟨14, _⟩ => ⟨S8x16x256, .f32⟩
  | .hbm, ⟨15, _⟩ => ⟨S8x16x256x1, .f32⟩
  | .hbm, ⟨16, _⟩ => ⟨S_, .i32⟩
  | .hbm, ⟨17, _⟩ => ⟨S8x16x256x1, .i32⟩
  | .hbm, ⟨18, _⟩ => ⟨S8x16x256x1, .i1⟩
  | .hbm, ⟨19, _⟩ => ⟨S_, .i32⟩
  | .hbm, ⟨20, _⟩ => ⟨S8x16x256x1, .i32⟩
  | .hbm, ⟨21, _⟩ => ⟨S8x16x256x1, .i32⟩
  | .hbm, ⟨22, _⟩ => ⟨S8x16x256x1, .i32⟩
  | .hbm, ⟨23, _⟩ => ⟨S8x16x256x1024, .f32⟩
  | .hbm, ⟨24, _⟩ => ⟨S8x16x256x1024, .f32⟩
  | .hbm, ⟨25, _⟩ => ⟨S8x16x256x1024, .f32⟩
  | .hbm, ⟨26, _⟩ => ⟨S8x256x1024, .f32⟩
  | .hbm, ⟨27, _⟩ => ⟨S_, .i32⟩
  | .hbm, ⟨28, _⟩ => ⟨S8x16x256x1, .i32⟩
  | .hbm, ⟨29, _⟩ => ⟨S8x16x256x1, .i1⟩
  | .hbm, ⟨30, _⟩ => ⟨S_, .i32⟩
  | .hbm, ⟨31, _⟩ => ⟨S8x16x256x1, .i32⟩
  | .hbm, ⟨32, _⟩ => ⟨S8x16x256x1, .i1⟩
  | .hbm, ⟨33, _⟩ => ⟨S8x16x256x1, .i1⟩
  | .hbm, ⟨34, _⟩ => ⟨S_, .f32⟩
  | .hbm, ⟨35, _⟩ => ⟨S_, .f32⟩
  | .hbm, ⟨36, _⟩ => ⟨S8x16x256x1024, .i1⟩
  | .hbm, ⟨37, _⟩ => ⟨S8x16x256x1024, .f32⟩
  | .hbm, ⟨38, _⟩ => ⟨S8x16x256x1024, .f32⟩
  | .hbm, ⟨39, _⟩ => ⟨S_, .f32⟩
  | .hbm, ⟨40, _⟩ => ⟨S8x256x1024, .f32⟩
  | .hbm, ⟨41, _⟩ => ⟨S8x256x1024, .f32⟩
  | .hbm, ⟨42, _⟩ => ⟨S8x256x1024, .f32⟩
  | .hbm, ⟨43, _⟩ => ⟨S8x256x1024, .f32⟩
  | .hbm, ⟨44, _⟩ => ⟨S8x1x1024, .f32⟩
  | .hbm, ⟨45, _⟩ => ⟨S16x2048x1024, .f32⟩
  | .hbm, ⟨46, _⟩ => ⟨S16x8x256x1024, .f32⟩
  | .hbm, ⟨47, _⟩ => ⟨S8x16x256x1024, .f32⟩
  | .hbm, ⟨48, _⟩ => ⟨S8x2048x16, .i32⟩
  | .hbm, ⟨49, _⟩ => ⟨S8x16x2048, .i32⟩
  | .hbm, ⟨50, _⟩ => ⟨S8x16x2048x1, .i32⟩
  | .hbm, ⟨51, _⟩ => ⟨S8x2048x16, .f32⟩
  | .hbm, ⟨52, _⟩ => ⟨S8x16x2048, .f32⟩
  | .hbm, ⟨53, _⟩ => ⟨S8x16x2048x1, .f32⟩
  | .hbm, ⟨54, _⟩ => ⟨S_, .i32⟩
  | .hbm, ⟨55, _⟩ => ⟨S8x16x2048x1, .i32⟩
  | .hbm, ⟨56, _⟩ => ⟨S8x16x2048x1, .i1⟩
  | .hbm, ⟨57, _⟩ => ⟨S_, .i32⟩
  | .hbm, ⟨58, _⟩ => ⟨S8x16x2048x1, .i32⟩
  | .hbm, ⟨59, _⟩ => ⟨S8x16x2048x1, .i32⟩
  | .hbm, ⟨60, _⟩ => ⟨S8x16x2048x1, .i32⟩
  | .hbm, ⟨61, _⟩ => ⟨S8x16x2048x1024, .f32⟩
  | .hbm, ⟨62, _⟩ => ⟨S8x16x2048x1024, .f32⟩
  | .hbm, ⟨63, _⟩ => ⟨S8x16x2048x1024, .f32⟩
  | .hbm, ⟨64, _⟩ => ⟨S8x2048x1024, .f32⟩
  | .hbm, ⟨65, _⟩ => ⟨S_, .i32⟩
  | .hbm, ⟨66, _⟩ => ⟨S8x16x2048x1, .i32⟩
  | .hbm, ⟨67, _⟩ => ⟨S8x16x2048x1, .i1⟩
  | .hbm, ⟨68, _⟩ => ⟨S_, .i32⟩
  | .hbm, ⟨69, _⟩ => ⟨S8x16x2048x1, .i32⟩
  | .hbm, ⟨70, _⟩ => ⟨S8x16x2048x1, .i1⟩
  | .hbm, ⟨71, _⟩ => ⟨S8x16x2048x1, .i1⟩
  | .hbm, ⟨72, _⟩ => ⟨S_, .f32⟩
  | .hbm, ⟨73, _⟩ => ⟨S_, .f32⟩
  | .hbm, ⟨74, _⟩ => ⟨S8x16x2048x1024, .i1⟩
  | .hbm, ⟨75, _⟩ => ⟨S8x16x2048x1024, .f32⟩
  | .hbm, ⟨76, _⟩ => ⟨S8x16x2048x1024, .f32⟩
  | .hbm, ⟨77, _⟩ => ⟨S_, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2304x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_v38 : Ref sig .tc := ⟨.hbm, 66, rfl⟩
abbrev main_v39 : Ref sig .tc := ⟨.hbm, 67, rfl⟩
abbrev main_c_3 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]
-- ==== Gather.lean ====
abbrev S8x16x2304 : Shape := ⟨3, ![8, 16, 2304]⟩
abbrev S8x2304x1024 : Shape := ⟨3, ![8, 2304, 1024]⟩
abbrev S8x16x1x2304 : Shape := ⟨4, ![8, 16, 1, 2304]⟩
abbrev S16x2048x1024 : Shape := ⟨3, ![16, 2048, 1024]⟩
abbrev S16x256x1024 : Shape := ⟨3, ![16, 256, 1024]⟩
abbrev S1x1x1x2304 : Shape := ⟨4, ![1, 1, 1, 2304]⟩
abbrev S1x2304x1024 : Shape := ⟨3, ![1, 2304, 1024]⟩
abbrev S1x256x1024 : Shape := ⟨3, ![1, 256, 1024]⟩
abbrev S1x32x1024 : Shape := ⟨3, ![1, 32, 1024]⟩
abbrev S1x2304 : Shape := ⟨2, ![1, 2304]⟩
abbrev S256x2048 : Shape := ⟨2, ![256, 2048]⟩
abbrev S1x2048 : Shape := ⟨2, ![1, 2048]⟩
abbrev S1x2048x1024 : Shape := ⟨3, ![1, 2048, 1024]⟩
abbrev S2048x1024 : Shape := ⟨2, ![2048, 1024]⟩
abbrev S256x1024 : Shape := ⟨2, ![256, 1024]⟩
abbrev S32x256 : Shape := ⟨2, ![32, 256]⟩
abbrev S1x256 : Shape := ⟨2, ![1, 256]⟩
abbrev S32x1024 : Shape := ⟨2, ![32, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8x16x2304, .i32⟩
  | .hbm, ⟨1, _⟩ => ⟨S8x2304x1024, .bf16⟩
  | .hbm, ⟨2, _⟩ => ⟨S8x16x1x2304, .i32⟩
  | .hbm, ⟨3, _⟩ => ⟨S16x2048x1024, .bf16⟩
  | .hbm, ⟨4, _⟩ => ⟨S16x256x1024, .bf16⟩
  | .local _ .vmem, ⟨0, _⟩ => ⟨S1x1x1x2304, .i32⟩
  | .local _ .vmem, ⟨1, _⟩ => ⟨S1x1x1x2304, .i32⟩
  | .local _ .vmem, ⟨2, _⟩ => ⟨S1x2304x1024, .bf16⟩
  | .local _ .vmem, ⟨3, _⟩ => ⟨S1x2304x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x32x1024, .bf16⟩
  | .local _ .vmem, ⟨7, _⟩ => ⟨S1x32x1024, .bf16⟩
  | _, _ => ⟨S8x16x2304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1x1x2304 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatherRefIdeal.lean ====
abbrev S8x16x2304 : Shape := ⟨3, ![8, 16, 2304]⟩
abbrev S8x2304x1024 : Shape := ⟨3, ![8, 2304, 1024]⟩
abbrev S8x16x2048 : Shape := ⟨3, ![8, 16, 2048]⟩
abbrev S8x2048x1024 : Shape := ⟨3, ![8, 2048, 1024]⟩
abbrev S8 : Shape := ⟨1, ![8]⟩
abbrev S8x1x1 : Shape := ⟨3, ![8, 1, 1]⟩
abbrev S16 : Shape := ⟨1, ![16]⟩
abbrev S1x16x1 : Shape := ⟨3, ![1, 16, 1]⟩
abbrev S_ : Shape := ⟨0, ![]⟩
abbrev S8x1x2048x1024 : Shape := ⟨4, ![8, 1, 2048, 1024]⟩
abbrev S8x16x2048x1024 : Shape := ⟨4, ![8, 16, 2048, 1024]⟩
abbrev S8x16x256x1024 : Shape := ⟨4, ![8, 16, 256, 1024]⟩
abbrev S8x16x2048x1 : Shape := ⟨4, ![8, 16, 2048, 1]⟩
abbrev S8x16x2048x3 : Shape := ⟨4, ![8, 16, 2048, 3]⟩
abbrev S16x8x256x1024 : Shape := ⟨4, ![16, 8, 256, 1024]⟩
abbrev S16x2048x1024 : Shape := ⟨3, ![16, 2048, 1024]⟩
abbrev S8x16x256 : Shape := ⟨3, ![8, 16, 256]⟩
abbrev S8x256x1024 : Shape := ⟨3, ![8, 256, 1024]⟩
abbrev S8x1x256x1024 : Shape := ⟨4, ![8, 1, 256, 1024]⟩
abbrev S8x16x32x1024 : Shape := ⟨4, ![8, 16, 32, 1024]⟩
abbrev S8x16x256x1 : Shape := ⟨4, ![8, 16, 256, 1]⟩
abbrev S8x16x256x3 : Shape := ⟨4, ![8, 16, 256, 3]⟩
abbrev S16x8x32x1024 : Shape := ⟨4, ![16, 8, 32, 1024]⟩
abbrev S16x256x1024 : Shape := ⟨3, ![16, 256, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8x16x2304, .i32⟩
  | .hbm, ⟨1, _⟩ => ⟨S8x2304x1024, .bf16⟩
  | .hbm, ⟨2, _⟩ => ⟨S8x16x2048, .i32⟩
  | .hbm, ⟨3, _⟩ => ⟨S8x2048x1024, .bf16⟩
  | .hbm, ⟨4, _⟩ => ⟨S8, .i32⟩
  | .hbm, ⟨5, _⟩ => ⟨S8x1x1, .i32⟩
  | .hbm, ⟨6, _⟩ => ⟨S16, .i32⟩
  | .hbm, ⟨7, _⟩ => ⟨S1x16x1, .i32⟩
  | .hbm, ⟨8, _⟩ => ⟨S_, .i32⟩
  | .hbm, ⟨9, _⟩ => ⟨S8x16x2048, .i32⟩
  | .hbm, ⟨10, _⟩ => ⟨S8x16x2048, .i1⟩
  | .hbm, ⟨11, _⟩ => ⟨S_, .i32⟩
  | .hbm, ⟨12, _⟩ => ⟨S8x16x2048, .i32⟩
  | .hbm, ⟨13, _⟩ => ⟨S8x16x2048, .i1⟩
  | .hbm, ⟨14, _⟩ => ⟨S8x16x2048, .i1⟩
  | .hbm, ⟨15, _⟩ => ⟨S_, .i32⟩
  | .hbm, ⟨16, _⟩ => ⟨S_, .i32⟩
  | .hbm, ⟨17, _⟩ => ⟨S8x16x2048, .i32⟩
  | .hbm, ⟨18, _⟩ => ⟨S8x16x2048, .i32⟩
  | .hbm, ⟨19, _⟩ => ⟨S8x2048x1024, .f32⟩
  | .hbm, ⟨20, _⟩ => ⟨S8x1x2048x1024, .f32⟩
  | .hbm, ⟨21, _⟩ => ⟨S8x16x2048x1024, .f32⟩
  | .hbm, ⟨22, _⟩ => ⟨S_, .f32⟩
  | .hbm, ⟨23, _⟩ => ⟨S8x16x256x1024, .f32⟩
  | .hbm, ⟨24, _⟩ => ⟨S_, .i32⟩
  | .hbm, ⟨25, _⟩ => ⟨S8x1x1, .i32⟩
  | .hbm, ⟨26, _⟩ => ⟨S8x1x1, .i1⟩
  | .hbm, ⟨27, _⟩ => ⟨S_, .i32⟩
  | .hbm, ⟨28, _⟩ => ⟨S8x1x1, .i32⟩
  | .hbm, ⟨29, _⟩ => ⟨S8x1x1, .i32⟩
  | .hbm, ⟨30, _⟩ => ⟨S8x1x1, .i32⟩
  | .hbm, ⟨31, _⟩ => ⟨S_, .i32⟩
  | .hbm, ⟨32, _⟩ => ⟨S1x16x1, .i32⟩
  | .hbm, ⟨33, _⟩ => ⟨S1x16x1, .i1⟩
  | .hbm, ⟨34, _⟩ => ⟨S_, .i32⟩
  | .hbm, ⟨35, _⟩ => ⟨S1x16x1, .i32⟩
  | .hbm, ⟨36, _⟩ => ⟨S1x16x1, .i32⟩
  | .hbm, ⟨37, _⟩ => ⟨S1x16x1, .i32⟩
  | .hbm, ⟨38, _⟩ => ⟨S_, .i32⟩
  | .hbm, ⟨39, _⟩ => ⟨S8x16x2048, .i32⟩
  | .hbm, ⟨40, _⟩ => ⟨S8x16x2048, .i1⟩
  | .hbm, ⟨41, _⟩ => ⟨S_, .i32⟩
  | .hbm, ⟨42, _⟩ => ⟨S8x16x2048, .i32⟩
  | .hbm, ⟨43, _⟩ => ⟨S8x16x2048, .i32⟩
  | .hbm, ⟨44, _⟩ => ⟨S8x16x2048, .i32⟩
  | .hbm, ⟨45, _⟩ => ⟨S8x16x2048, .i32⟩
  | .hbm, ⟨46, _⟩ => ⟨S8x16x2048, .i32⟩
  | .hbm, ⟨47, _⟩ => ⟨S8x16x2048x1, .i32⟩
  | .hbm, ⟨48, _⟩ => ⟨S8x16x2048x1, .i32⟩
  | .hbm, ⟨49, _⟩ => ⟨S8x16x2048x1, .i32⟩
  | .hbm, ⟨50, _⟩ => ⟨S8x16x2048x3, .i32⟩
  | .hbm, ⟨51, _⟩ => ⟨S8x16x256x1024, .f32⟩
  | .hbm, ⟨52, _⟩ => ⟨S16x8x256x1024, .f32⟩
  | .hbm, ⟨53, _⟩ => ⟨S16x2048x1024, .f32⟩
  | .hbm, ⟨54, _⟩ => ⟨S16x2048x1024, .bf16⟩
  | .hbm, ⟨55, _⟩ => ⟨S8x16x256, .i32⟩
  | .hbm, ⟨56, _⟩ => ⟨S8x256x1024, .bf16⟩
  | .hbm, ⟨57, _⟩ => ⟨S8, .i32⟩
  | .hbm, ⟨58, _⟩ => ⟨S8x1x1, .i32⟩
  | .hbm, ⟨59, _⟩ => ⟨S16, .i32⟩
  | .hbm, ⟨60, _⟩ => ⟨S1x16x1, .i32⟩
  | .hbm, ⟨61, _⟩ => ⟨S_, .i32⟩
  | .hbm, ⟨62, _⟩ => ⟨S8x16x256, .i32⟩
  | .hbm, ⟨63, _⟩ => ⟨S8x16x256, .i1⟩
  | .hbm, ⟨64, _⟩ => ⟨S_, .i32⟩
  | .hbm, ⟨65, _⟩ => ⟨S8x16x256, .i32⟩
  | .hbm, ⟨66, _⟩ => ⟨S8x16x256, .i1⟩
  | .hbm, ⟨67, _⟩ => ⟨S8x16x256, .i1⟩
  | .hbm, ⟨68, _⟩ => ⟨S_, .i32⟩
  | .hbm, ⟨69, _⟩ => ⟨S_, .i32⟩
  | .hbm, ⟨70, _⟩ => ⟨S8x16x256, .i32⟩
  | .hbm, ⟨71, _⟩ => ⟨S8x16x256, .i32⟩
  | .hbm, ⟨72, _⟩ => ⟨S8x256x1024, .f32⟩
  | .hbm, ⟨73, _⟩ => ⟨S8x1x256x1024, .f32⟩
  | .hbm, ⟨74, _⟩ => ⟨S8x16x256x1024, .f32⟩
  | .hbm, ⟨75, _⟩ => ⟨S_, .f32⟩
  | .hbm, ⟨76, _⟩ => ⟨S8x16x32x1024, .f32⟩
  | .hbm, ⟨77, _⟩ => ⟨S_, .i32⟩
  | .hbm, ⟨78, _⟩ => ⟨S8x1x1, .i32⟩
  | .hbm, ⟨79, _⟩ => ⟨S8x1x1, .i1⟩
  | .hbm, ⟨80, _⟩ => ⟨S_, .i32⟩
  | .hbm, ⟨81, _⟩ => ⟨S8x1x1, .i32⟩
  | .hbm, ⟨82, _⟩ => ⟨S8x1x1, .i32⟩
  | .hbm, ⟨83, _⟩ => ⟨S8x1x1, .i32⟩
  | .hbm, ⟨84, _⟩ => ⟨S_, .i32⟩
  | .hbm, ⟨85, _⟩ => ⟨S1x16x1, .i32⟩
  | .hbm, ⟨86, _⟩ => ⟨S1x16x1, .i1⟩
  | .hbm, ⟨87, _⟩ => ⟨S_, .i32⟩
  | .hbm, ⟨88, _⟩ => ⟨S1x16x1, .i32⟩
  | .hbm, ⟨89, _⟩ => ⟨S1x16x1, .i32⟩
  | .hbm, ⟨90, _⟩ => ⟨S1x16x1, .i32⟩
  | .hbm, ⟨91, _⟩ => ⟨S_, .i32⟩
  | .hbm, ⟨92, _⟩ => ⟨S8x16x256, .i32⟩
  | .hbm, ⟨93, _⟩ => ⟨S8x16x256, .i1⟩
  | .hbm, ⟨94, _⟩ => ⟨S_, .i32⟩
  | .hbm, ⟨95, _⟩ => ⟨S8x16x256, .i32⟩
  | .hbm, ⟨96, _⟩ => ⟨S8x16x256, .i32⟩
  | .hbm, ⟨97, _⟩ => ⟨S8x16x256, .i32⟩
  | .hbm, ⟨98, _⟩ => ⟨S8x16x256, .i32⟩
  | .hbm, ⟨99, _⟩ => ⟨S8x16x256, .i32⟩
  | .hbm, ⟨100, _⟩ => ⟨S8x16x256x1, .i32⟩
  | .hbm, ⟨101, _⟩ => ⟨S8x16x256x1, .i32⟩
  | .hbm, ⟨102, _⟩ => ⟨S8x16x256x1, .i32⟩
  | .hbm, ⟨103, _⟩ => ⟨S8x16x256x3, .i32⟩
  | .hbm, ⟨104, _⟩ => ⟨S8x16x32x1024, .f32⟩
  | .hbm, ⟨105, _⟩ => ⟨S16x8x32x1024, .f32⟩
  | .hbm, ⟨106, _⟩ => ⟨S16x256x1024, .f32⟩
  | .hbm, ⟨107, _⟩ => ⟨S16x256x1024, .bf16⟩
  | _, _ => ⟨S8x16x2304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_c_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_call1_v0 : Ref sig .tc := ⟨.hbm, 69, rfl⟩
abbrev main_call1_v1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_c_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_14 : Ref sig .tc := ⟨.hbm, 84, rfl⟩
abbrev main_v62 : Ref sig .tc := ⟨.hbm, 85, rfl⟩
abbrev main_v63 : Ref sig .tc := ⟨.hbm, 86, rfl⟩
abbrev main_c_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_16 : Ref sig .tc := ⟨.hbm, 91, rfl⟩
abbrev main_v67 : Ref sig .tc := ⟨.hbm, 92, rfl⟩
abbrev main_v68 : Ref sig .tc := ⟨.hbm, 93, rfl⟩
abbrev main_c_17 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== Ada.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 76
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x6144, .f32⟩
  | .hbm, ⟨30, _⟩ => ⟨S1024x6144, .f32⟩
  | .hbm, ⟨31, _⟩ => ⟨S16x6144, .f32⟩
  | .hbm, ⟨32, _⟩ => ⟨S1x6144, .f32⟩
  | .hbm, ⟨33, _⟩ => ⟨S6144, .f32⟩
  | .hbm, ⟨34, _⟩ => ⟨S1x6144, .f32⟩
  | .hbm, ⟨35, _⟩ => ⟨S16x6144, .f32⟩
  | .hbm, ⟨36, _⟩ => ⟨S16x6144, .f32⟩
  | .hbm, ⟨37, _⟩ => ⟨S16x1024, .f32⟩
  | .hbm, ⟨38, _⟩ => ⟨S16x1024, .f32⟩
  | .hbm, ⟨39, _⟩ => ⟨S_, .f32⟩
  | .hbm, ⟨40, _⟩ => ⟨S16x1024, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .f32⟩
  | .hbm, ⟨45, _⟩ => ⟨S16x1024, .f32⟩
  | .hbm, ⟨46, _⟩ => ⟨S1x1024x6144, .f32⟩
  | .hbm, ⟨47, _⟩ => ⟨S1024x6144, .f32⟩
  | .hbm, ⟨48, _⟩ => ⟨S16x6144, .f32⟩
  | .hbm, ⟨49, _⟩ => ⟨S1x6144, .f32⟩
  | .hbm, ⟨50, _⟩ => ⟨S6144, .f32⟩
  | .hbm, ⟨51, _⟩ => ⟨S1x6144, .f32⟩
  | .hbm, ⟨52, _⟩ => ⟨S16x6144, .f32⟩
  | .hbm, ⟨53, _⟩ => ⟨S16x6144, .f32⟩
  | .hbm, ⟨54, _⟩ => ⟨S16x1024, .f32⟩
  | .hbm, ⟨55, _⟩ => ⟨S16x1024, .f32⟩
  | .hbm, ⟨56, _⟩ => ⟨S_, .f32⟩
  | .hbm, ⟨57, _⟩ => ⟨S16x1024, .f32⟩
  | .hbm, ⟨58, _⟩ => ⟨S16x1024, .f32⟩
  | .hbm, ⟨59, _⟩ => ⟨S_, .f32⟩
  | .hbm, ⟨60, _⟩ => ⟨S16x1024, .f32⟩
  | .hbm, ⟨61, _⟩ => ⟨S16x1024, .f32⟩
  | .hbm, ⟨62, _⟩ => ⟨S16x1024, .f32⟩
  | .hbm, ⟨63, _⟩ => ⟨S1x1024x6144, .f32⟩
  | .hbm, ⟨64, _⟩ => ⟨S1024x6144, .f32⟩
  | .hbm, ⟨65, _⟩ => ⟨S16x6144, .f32⟩
  | .hbm, ⟨66, _⟩ => ⟨S1x6144, .f32⟩
  | .hbm, ⟨67, _⟩ => ⟨S6144, .f32⟩
  | .hbm, ⟨68, _⟩ => ⟨S1x6144, .f32⟩
  | .hbm, ⟨69, _⟩ => ⟨S16x6144, .f32⟩
  | .hbm, ⟨70, _⟩ => ⟨S16x6144, .f32⟩
  | .hbm, ⟨71, _⟩ => ⟨S1x16x6144, .f32⟩
  | .hbm, ⟨72, _⟩ => ⟨S1x16x6144, .f32⟩
  | .hbm, ⟨73, _⟩ => ⟨S1x16x6144, .f32⟩
  | .hbm, ⟨74, _⟩ => ⟨S1x16x6144, .f32⟩
  | .hbm, ⟨75, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Router.lean ====
abbrev S8x2304x512 : Shape := ⟨3, ![8, 2304, 512]⟩
abbrev S8x2304x3072 : Shape := ⟨3, ![8, 2304, 3072]⟩
abbrev S8x2304x1024 : Shape := ⟨3, ![8, 2304, 1024]⟩
abbrev S8x2x6x1024 : Shape := ⟨4, ![8, 2, 6, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S1x1024 : Shape := ⟨2, ![1, 1024]⟩
abbrev S8x2304x16 : Shape := ⟨3, ![8, 2304, 16]⟩
abbrev S1x256x512 : Shape := ⟨3, ![1, 256, 512]⟩
abbrev S1x256x3072 : Shape := ⟨3, ![1, 256, 3072]⟩
abbrev S1x256x1024 : Shape := ⟨3, ![1, 256, 1024]⟩
abbrev S1x1x6x1024 : Shape := ⟨4, ![1, 1, 6, 1024]⟩
abbrev S1x256x16 : Shape := ⟨3, ![1, 256, 16]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S6x1024 : Shape := ⟨2, ![6, 1024]⟩
abbrev S256 : Shape := ⟨1, ![256]⟩
abbrev S256x1 : Shape := ⟨2, ![256, 1]⟩
abbrev S256x16 : Shape := ⟨2, ![256, 16]⟩

abbrev nBuf : Space → Nat
  | .hbm => 16
  | .vmem => 22
  | .smem => 0
  | _ => 0

abbrev bufTy : (tb : Table) → Fin (tcTables nBuf tb) → BufTy
  | .hbm, ⟨0, _⟩ => ⟨S8x2304x512, .f32⟩
  | .hbm, ⟨1, _⟩ => ⟨S8x2304x512, .f32⟩
  | .hbm, ⟨2, _⟩ => ⟨S8x2304x512, .f32⟩
  | .hbm, ⟨3, _⟩ => ⟨S8x2304x3072, .f32⟩
  | .hbm, ⟨4, _⟩ => ⟨S8x2304x1024, .f32⟩
  | .hbm, ⟨5, _⟩ => ⟨S8x2x6x1024, .f32⟩
  | .hbm, ⟨6, _⟩ => ⟨S1024, .f32⟩
  | .hbm, ⟨7, _⟩ => ⟨S3x512x1024, .f32⟩
  | .hbm, ⟨8, _⟩ => ⟨S1024x1024, .f32⟩
  | .hbm, ⟨9, _⟩ => ⟨S1024x16, .f32⟩
  | .hbm, ⟨10, _⟩ => ⟨S1x1024, .f32⟩
  | .hbm, ⟨11, _⟩ => ⟨S3x512x1024, .bf16⟩
  | .hbm, ⟨12, _⟩ => ⟨S1024x1024, .bf16⟩
  | .hbm, ⟨13, _⟩ => ⟨S8x2304x1024, .f32⟩
  | .hbm, ⟨14, _⟩ => ⟨S8x2304x1024, .bf16⟩
  | .hbm, ⟨15, _⟩ => ⟨S8x2304x16, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x3072, .f32⟩
  | .local _ .vmem, ⟨7, _⟩ => ⟨S1x256x3072, .f32⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x1024, .f32⟩
  | .local _ .vmem, ⟨13, _⟩ => ⟨S3x512x1024, .bf16⟩
  | .local _ .vmem, ⟨14, _⟩ => ⟨S1024x1024, .bf16⟩
  | .local _ .vmem, ⟨15, _⟩ => ⟨S1024x16, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x16, .f32⟩
  | .local _ .vmem, ⟨21, _⟩ => ⟨S1x256x16, .f32⟩
  | _, _ => ⟨S8x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RouterRefIdeal.lean ====
abbrev S8x2304x512 : Shape := ⟨3, ![8, 2304, 512]⟩
abbrev S8x2304x3072 : Shape := ⟨3, ![8, 2304, 3072]⟩
abbrev S8x2304x1024 : Shape := ⟨3, ![8, 2304, 1024]⟩
abbrev S8x2x6x1024 : Shape := ⟨4, ![8, 2, 6, 1024]⟩
abbrev S1024 : Shape := ⟨1, ![1024]⟩
abbrev S3x512x1024 : Shape := ⟨3, ![3, 512, 1024]⟩
abbrev S1024x1024 : Shape := ⟨2, ![1024, 1024]⟩
abbrev S1024x16 : Shape := ⟨2, ![1024, 16]⟩
abbrev S8x1x6x1024 : Shape := ⟨4, ![8, 1, 6, 1024]⟩
abbrev S8x6x1024 : Shape := ⟨3, ![8, 6, 1024]⟩
abbrev S8x256x3072 : Shape := ⟨3, ![8, 256, 3072]⟩
abbrev S_ : Shape := ⟨0, ![]⟩
abbrev S8x256x1024 : Shape := ⟨3, ![8, 256, 1024]⟩
abbrev S8x256x512 : Shape := ⟨3, ![8, 256, 512]⟩
abbrev S1x512x1024 : Shape := ⟨3, ![1, 512, 1024]⟩
abbrev S512x1024 : Shape := ⟨2, ![512, 1024]⟩
abbrev S8x1x1024 : Shape := ⟨3, ![8, 1, 1024]⟩
abbrev S8x256 : Shape := ⟨2, ![8, 256]⟩
abbrev S8x256x1 : Shape := ⟨3, ![8, 256, 1]⟩
abbrev S1x1x1024 : Shape := ⟨3, ![1, 1, 1024]⟩
abbrev S8x256x16 : Shape := ⟨3, ![8, 256, 16]⟩
abbrev S8x2048x3072 : Shape := ⟨3, ![8, 2048, 3072]⟩
abbrev S8x2048x1024 : Shape := ⟨3, ![8, 2048, 1024]⟩
abbrev S8x2048x512 : Shape := ⟨3, ![8, 2048, 512]⟩
abbrev S8x2048 : Shape := ⟨2, ![8, 2048]⟩
abbrev S8x2048x1 : Shape := ⟨3, ![8, 2048, 1]⟩
abbrev S8x2048x16 : Shape := ⟨3, ![8, 2048, 16]⟩
abbrev S8x2304x16 : Shape := ⟨3, ![8, 2304, 16]⟩

abbrev nBuf : Space → Nat
  | .hbm => 165
  | .vmem => 0
  | .smem => 0
  | _ => 0

abbrev hbmTy0_0 (i : Nat) : BufTy := match i % 128 with
  | 0 => ⟨S8x2304x512, .f32⟩
  | 1 => ⟨S8x2304x512, .f32⟩
  | 2 => ⟨S8x2304x512, .f32⟩
  | 3 => ⟨S8x2304x3072, .f32⟩
  | 4 => ⟨S8x2304x1024, .f32⟩
  | 5 => ⟨S8x2x6x1024, .f32⟩
  | 6 => ⟨S1024, .f32⟩
  | 7 => ⟨S3x512x1024, .f32⟩
  | 8 => ⟨S1024x1024, .f32⟩
  | 9 => ⟨S1024x16, .f32⟩
  | 10 => ⟨S8x1x6x1024, .f32⟩
  | 11 => ⟨S8x6x1024, .f32⟩
  | 12 => ⟨S8x256x3072, .f32⟩
  | 13 => ⟨S8x256x3072, .f32⟩
  | 14 => ⟨S8x256x3072, .f32⟩
  | 15 => ⟨S_, .f32⟩
  | 16 => ⟨S8x256x3072, .f32⟩
  | 17 => ⟨S8x256x3072, .f32⟩
  | 18 => ⟨S_, .f32⟩
  | 19 => ⟨S8x256x3072, .f32⟩
  | 20 => ⟨S8x256x3072, .f32⟩
  | 21 => ⟨S8x256x1024, .f32⟩
  | 22 => ⟨S8x256x1024, .f32⟩
  | 23 => ⟨S8x256x1024, .f32⟩
  | 24 => ⟨S8x256x512, .f32⟩
  | 25 => ⟨S1x512x1024, .f32⟩
  | 26 => ⟨S512x1024, .f32⟩
  | 27 => ⟨S8x256x1024, .f32⟩
  | 28 => ⟨S8x256x1024, .f32⟩
  | 29 => ⟨S8x256x512, .f32⟩
  | 30 => ⟨S1x512x1024, .f32⟩
  | 31 => ⟨S512x1024, .f32⟩
  | 32 => ⟨S8x256x1024, .f32⟩
  | 33 => ⟨S8x256x1024, .f32⟩
  | 34 => ⟨S8x256x1024, .f32⟩
  | 35 => ⟨S8x256x512, .f32⟩
  | 36 => ⟨S1x512x1024, .f32⟩
  | 37 => ⟨S512x1024, .f32⟩
  | 38 => ⟨S8x256x1024, .f32⟩
  | 39 => ⟨S8x256x1024, .f32⟩
  | 40 => ⟨S8x256x1024, .f32⟩
  | 41 => ⟨S8x256x1024, .f32⟩
  | 42 => ⟨S8x1x1024, .f32⟩
  | 43 => ⟨S8x256x1024, .f32⟩
  | 44 => ⟨S8x256x1024, .f32⟩
  | 45 => ⟨S8x256x1024, .f32⟩
  | 46 => ⟨S8x256x1024, .f32⟩
  | 47 => ⟨S8x256x1024, .f32⟩
  | 48 => ⟨S_, .f32⟩
  | 49 => ⟨S8x256, .f32⟩
  | 50 => ⟨S8x256x1, .f32⟩
  | 51 => ⟨S_, .f32⟩
  | 52 => ⟨S8x256x1, .f32⟩
  | 53 => ⟨S8x256x1, .f32⟩
  | 54 => ⟨S_, .f32⟩
  | 55 => ⟨S8x256x1, .f32⟩
  | 56 => ⟨S8x256x1, .f32⟩
  | 57 => ⟨S8x256x1, .f32⟩
  | 58 => ⟨S8x256x1024, .f32⟩
  | 59 => ⟨S8x256x1024, .f32⟩
  | 60 => ⟨S1x1x1024, .f32⟩
  | 61 => ⟨S8x256x1024, .f32⟩
  | 62 => ⟨S8x256x1024, .f32⟩
  | 63 => ⟨S8x1x1024, .f32⟩
  | 64 => ⟨S8x1x1024, .f32⟩
  | 65 => ⟨S_, .f32⟩
  | 66 => ⟨S8x1x1024, .f32⟩
  | 67 => ⟨S8x1x1024, .f32⟩
  | 68 => ⟨S8x256x1024, .f32⟩
  | 69 => ⟨S8x256x1024, .f32⟩
  | 70 => ⟨S8x256x1024, .f32⟩
  | 71 => ⟨S8x256x1024, .f32⟩
  | 72 => ⟨S8x256x16, .f32⟩
  | 73 => ⟨S_, .f32⟩
  | 74 => ⟨S8x256, .f32⟩
  | 75 => ⟨S_, .f32⟩
  | 76 => ⟨S8x256, .f32⟩
  | 77 => ⟨S8x256, .f32⟩
  | 78 => ⟨S8x256x1, .f32⟩
  | 79 => ⟨S8x256x16, .f32⟩
  | 80 => ⟨S8x256x16, .f32⟩
  | 81 => ⟨S8x256x16, .f32⟩
  | 82 => ⟨S_, .f32⟩
  | 83 => ⟨S8x256, .f32⟩
  | 84 => ⟨S8x256x1, .f32⟩
  | 85 => ⟨S8x256x16, .f32⟩
  | 86 => ⟨S8x256x16, .f32⟩
  | 87 => ⟨S8x1x6x1024, .f32⟩
  | 88 => ⟨S8x6x1024, .f32⟩
  | 89 => ⟨S8x2048x3072, .f32⟩
  | 90 => ⟨S8x2048x3072, .f32⟩
  | 91 => ⟨S8x2048x3072, .f32⟩
  | 92 => ⟨S_, .f32⟩
  | 93 => ⟨S8x2048x3072, .f32⟩
  | 94 => ⟨S8x2048x3072, .f32⟩
  | 95 => ⟨S_, .f32⟩
  | 96 => ⟨S8x2048x3072, .f32⟩
  | 97 => ⟨S8x2048x3072, .f32⟩
  | 98 => ⟨S8x2048x1024, .f32⟩
  | 99 => ⟨S8x2048x1024, .f32⟩
  | 100 => ⟨S8x2048x1024, .f32⟩
  | 101 => ⟨S8x2048x512, .f32⟩
  | 102 => ⟨S1x512x1024, .f32⟩
  | 103 => ⟨S512x1024, .f32⟩
  | 104 => ⟨S8x2048x1024, .f32⟩
  | 105 => ⟨S8x2048x1024, .f32⟩
  | 106 => ⟨S8x2048x512, .f32⟩
  | 107 => ⟨S1x512x1024, .f32⟩
  | 108 => ⟨S512x1024, .f32⟩
  | 109 => ⟨S8x2048x1024, .f32⟩
  | 110 => ⟨S8x2048x1024, .f32⟩
  | 111 => ⟨S8x2048x1024, .f32⟩
  | 112 => ⟨S8x2048x512, .f32⟩
  | 113 => ⟨S1x512x1024, .f32⟩
  | 114 => ⟨S512x1024, .f32⟩
  | 115 => ⟨S8x2048x1024, .f32⟩
  | 116 => ⟨S8x2048x1024, .f32⟩
  | 117 => ⟨S8x2048x1024, .f32⟩
  | 118 => ⟨S8x2048x1024, .f32⟩
  | 119 => ⟨S8x1x1024, .f32⟩
  | 120 => ⟨S8x2048x1024, .f32⟩
  | 121 => ⟨S8x2048x1024, .f32⟩
  | 122 => ⟨S8x2048x1024, .f32⟩
  | 123 => ⟨S8x2048x1024, .f32⟩
  | 124 => ⟨S8x2048x1024, .f32⟩
  | 125 => ⟨S_, .f32⟩
  | 126 => ⟨S8x2048, .f32⟩
  | 127 => ⟨S8x2048x1, .f32⟩
  | _ => ⟨S8x2304x512, .f32⟩

abbrev hbmTy0_1 (i : Nat) : BufTy := match i % 128 with
  | 0 => ⟨S_, .f32⟩
  | 1 => ⟨S8x2048x1, .f32⟩
  | 2 => ⟨S8x2048x1, .f32⟩
  | 3 => ⟨S_, .f32⟩
  | 4 => ⟨S8x2048x1, .f32⟩
  | 5 => ⟨S8x2048x1, .f32⟩
  | 6 => ⟨S8x2048x1, .f32⟩
  | 7 => ⟨S8x2048x1024, .f32⟩
  | 8 => ⟨S8x2048x1024, .f32⟩
  | 9 => ⟨S1x1x1024, .f32⟩
  | 10 => ⟨S8x2048x1024, .f32⟩
  | 11 => ⟨S8x2048x1024, .f32⟩
  | 12 => ⟨S8x1x1024, .f32⟩
  | 13 => ⟨S8x1x1024, .f32⟩
  | 14 => ⟨S_, .f32⟩
  | 15 => ⟨S8x1x1024, .f32⟩
  | 16 => ⟨S8x1x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x2048x16, .f32⟩
  | 22 => ⟨S_, .f32⟩
  | 23 => ⟨S8x2048, .f32⟩
  | 24 => ⟨S_, .f32⟩
  | 25 => ⟨S8x2048, .f32⟩
  | 26 => ⟨S8x2048, .f32⟩
  | 27 => ⟨S8x2048x1, .f32⟩
  | 28 => ⟨S8x2048x16, .f32⟩
  | 29 => ⟨S8x2048x16, .f32⟩
  | 30 => ⟨S8x2048x16, .f32⟩
  | 31 => ⟨S_, .f32⟩
  | 32 => ⟨S8x2048, .f32⟩
  | 33 => ⟨S8x2048x1, .f32⟩
  | 34 => ⟨S8x2048x16, .f32⟩
  | 35 => ⟨S8x2048x16, .f32⟩
  | 36 => ⟨S8x2304x16, .f32⟩
  | _ => ⟨S8x2304x512, .f32⟩

abbrev hbmTy (i : Nat) : BufTy := match i / 128 with
  | 0 => hbmTy0_0 i
  | 1 => hbmTy0_1 i
  | _ => ⟨S8x2304x512, .f32⟩

abbrev bufTy : (tb : Table) → Fin (tcTables nBuf tb) → BufTy
  | .hbm, ⟨i, _⟩ => hbmTy i
  | _, _ => ⟨S8x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_1 : Ref sig .tc := ⟨.hbm, 48, rfl⟩
abbrev main_v36 : Ref sig .tc := ⟨.hbm, 49, rfl⟩
abbrev main_v37 : Ref sig .tc := ⟨.hbm, 50, rfl⟩
abbrev main_cst_2 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_8 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_10 : Ref sig .tc := ⟨.hbm, 125, rfl⟩
abbrev main_v104 : Ref sig .tc := ⟨.hbm, 126, rfl⟩
abbrev main_v105 : Ref sig .tc := ⟨.hbm, 127, rfl⟩
abbrev main_cst_11 : Ref sig .tc := ⟨.hbm, 128, rfl⟩
abbrev main_v106 : Ref sig .tc := ⟨.hbm, 129, rfl⟩
abbrev main_v107 : Ref sig .tc := ⟨.hbm, 130, rfl⟩
abbrev main_cst_12 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_13 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_14 : Ref sig .tc := ⟨.hbm, 150, rfl⟩
abbrev main_v125 : Ref sig .tc := ⟨.hbm, 151, rfl⟩
abbrev main_cst_15 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_16 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩

abbrev nD : Nat := 1
abbrev τ : Topo := Topo.v7x

variable {F : FTy → Type} [FloatOps F]
-- ==== Swa.lean ====
abbrev S8x2304x768 : Shape := ⟨3, ![8, 2304, 768]⟩
abbrev S64 : Shape := ⟨1, ![64]⟩
abbrev S8 : Shape := ⟨1, ![8]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x64 : Shape := ⟨2, ![2, 64]⟩
abbrev S128 : Shape := ⟨1, ![128]⟩
abbrev S1x128 : Shape := ⟨2, ![1, 128]⟩
abbrev S8x2304x512 : Shape := ⟨3, ![8, 2304, 512]⟩
abbrev S1x2304x768 : Shape := ⟨3, ![1, 2304, 768]⟩
abbrev S1x2304x512 : Shape := ⟨3, ![1, 2304, 512]⟩
abbrev S2304x512 : Shape := ⟨2, ![2304, 512]⟩
abbrev S2304x128 : Shape := ⟨2, ![2304, 128]⟩
abbrev S256x128 : Shape := ⟨2, ![256, 128]⟩
abbrev S128x128 : Shape := ⟨2, ![128, 128]⟩
abbrev S1x256x128 : Shape := ⟨3, ![1, 256, 128]⟩
abbrev S1x2048x128 : Shape := ⟨3, ![1, 2048, 128]⟩
abbrev S128x384 : Shape := ⟨2, ![128, 384]⟩
abbrev S128x512 : Shape := ⟨2, ![128, 512]⟩
abbrev S384x128 : Shape := ⟨2, ![384, 128]⟩
abbrev S1 : Shape := ⟨1, ![1]⟩
abbrev S128x64 : Shape := ⟨2, ![128, 64]⟩
abbrev S384x64 : Shape := ⟨2, ![384, 64]⟩
abbrev S256x64 : Shape := ⟨2, ![256, 64]⟩
abbrev S128x256 : Shape := ⟨2, ![128, 256]⟩
abbrev S128x1 : Shape := ⟨2, ![128, 1]⟩
abbrev S1x128x64 : Shape := ⟨3, ![1, 128, 64]⟩

abbrev nBuf : Space → Nat
  | .hbm => 52
  | .vmem => 13
  | .smem => 1
  | _ => 0

abbrev bufTy : (tb : Table) → Fin (tcTables nBuf tb) → BufTy
  | .hbm, ⟨0, _⟩ => ⟨S8x2304x768, .f32⟩
  | .hbm, ⟨1, _⟩ => ⟨S64, .f32⟩
  | .hbm, ⟨2, _⟩ => ⟨S64, .f32⟩
  | .hbm, ⟨3, _⟩ => ⟨S8, .f32⟩
  | .hbm, ⟨4, _⟩ => ⟨S32, .f32⟩
  | .hbm, ⟨5, _⟩ => ⟨S32x64, .f32⟩
  | .hbm, ⟨6, _⟩ => ⟨S2048, .f32⟩
  | .hbm, ⟨7, _⟩ => ⟨S64, .f32⟩
  | .hbm, ⟨8, _⟩ => ⟨S1x64, .f32⟩
  | .hbm, ⟨9, _⟩ => ⟨S32x64, .f32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x1, .f32⟩
  | .hbm, ⟨31, _⟩ => ⟨S1x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x32, .f32⟩
  | .hbm, ⟨36, _⟩ => ⟨S2048x32x2, .f32⟩
  | .hbm, ⟨37, _⟩ => ⟨S2048x64, .f32⟩
  | .hbm, ⟨38, _⟩ => ⟨S1x2048x1x64, .f32⟩
  | .hbm, ⟨39, _⟩ => ⟨S1x2048x2x64, .f32⟩
  | .hbm, ⟨40, _⟩ => ⟨S2048x128, .f32⟩
  | .hbm, ⟨41, _⟩ => ⟨S2048x128, .f32⟩
  | .hbm, ⟨42, _⟩ => ⟨S2048x128, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S8x2304x512, .f32⟩
  | .local _ .vmem, ⟨0, _⟩ => ⟨S1x2304x768, .f32⟩
  | .local _ .vmem, ⟨1, _⟩ => ⟨S1x2304x768, .f32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S1x2304x512, .f32⟩
  | .local _ .vmem, ⟨7, _⟩ => ⟨S1x2304x512, .f32⟩
  | .local _ .vmem, ⟨8, _⟩ => ⟨S2304x512, .bf16⟩
  | .local _ .vmem, ⟨9, _⟩ => ⟨S2304x128, .bf16⟩
  | .local _ .vmem, ⟨10, _⟩ => ⟨S2304x128, .bf16⟩
  | .local _ .vmem, ⟨11, _⟩ => ⟨S256x128, .bf16⟩
  | .local _ .vmem, ⟨12, _⟩ => ⟨S256x128, .bf16⟩
  | .local _ .smem, ⟨0, _⟩ => ⟨S8, .f32⟩
  | _, _ => ⟨S8x2304x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_173 : BitVec 32 := 0#32
  let c16_i32 : BitVec 32 := 16#32
  let v383 : BitVec 32 := Scalar.addi c0_i32_173 c16_i32
  let c1_i32_174 : BitVec 32 := 1#32
  ⟨c0_i32_173, v383, c1_i32_174⟩
def k0_mult1 (k0_t1 : Fin k0_t1_loop.trips) : BitVec 32 :=
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  v787
def k0_mult2 (k0_t1 : Fin k0_t1_loop.trips) : BitVec 32 :=
  let c0_i32_173 : BitVec 32 := 0#32
  let c1_i32_174 : BitVec 32 := 1#32
  let arg13 : BitVec 32 := Scf.iv c0_i32_173 c1_i32_174 k0_t1
  let c128_i32_362 : BitVec 32 := 128#32
  let v789 : BitVec 32 := Scalar.muli arg13 c128_i32_362
  v789
def k0_off1 (k0_t1 : Fin k0_t1_loop.trips) : Fin 2 → Nat :=
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v791 : Index := Scalar.indexCast v788
  let c0_363 : Index := 0#32
  ![v791.toNat, 0]
def k0_off2 (k0_t1 : Fin k0_t1_loop.trips) : Fin 2 → Nat :=
  let c0_i32_173 : BitVec 32 := 0#32
  let c1_i32_174 : BitVec 32 := 1#32
  let arg13 : BitVec 32 := Scf.iv c0_i32_173 c1_i32_174 k0_t1
  let c128_i32_362 : BitVec 32 := 128#32
  let v789 : BitVec 32 := Scalar.muli arg13 c128_i32_362
  let v790 : BitVec 32 := v789
  let v793 : Index := Scalar.indexCast v790
  let c0_364 : Index := 0#32
  ![v793.toNat, 0]
def k0_off3 (k0_t1 : Fin k0_t1_loop.trips) : Fin 3 → Nat :=
  let c0_383 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v846 : Index := Scalar.indexCast v788
  let c0_384 : Index := 0#32
  ![0, v846.toNat, 0]
def k0_off4 (k0_t1 : Fin k0_t1_loop.trips) : Fin 3 → Nat :=
  let c0_399 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v889 : Index := Scalar.indexCast v788
  let c64_400 : Index := 64#32
  ![0, v889.toNat, 64]
def k0_off5 (k0_t1 : Fin k0_t1_loop.trips) : Fin 3 → Nat :=
  let c0_415 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v932 : Index := Scalar.indexCast v788
  let c128_416 : Index := 128#32
  ![0, v932.toNat, 128]
def k0_off6 (k0_t1 : Fin k0_t1_loop.trips) : Fin 3 → Nat :=
  let c0_431 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v975 : Index := Scalar.indexCast v788
  let c192_432 : Index := 192#32
  ![0, v975.toNat, 192]
def k0_off7 (k0_t1 : Fin k0_t1_loop.trips) : Fin 3 → Nat :=
  let c0_447 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v1018 : Index := Scalar.indexCast v788
  let c256_448 : Index := 256#32
  ![0, v1018.toNat, 256]
def k0_off8 (k0_t1 : Fin k0_t1_loop.trips) : Fin 3 → Nat :=
  let c0_463 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v1061 : Index := Scalar.indexCast v788
  let c320_464 : Index := 320#32
  ![0, v1061.toNat, 320]
def k0_off9 (k0_t1 : Fin k0_t1_loop.trips) : Fin 3 → Nat :=
  let c0_479 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v1104 : Index := Scalar.indexCast v788
  let c384_480 : Index := 384#32
  ![0, v1104.toNat, 384]
def k0_off10 (k0_t1 : Fin k0_t1_loop.trips) : Fin 3 → Nat :=
  let c0_495 : Index := 0#32
  let c256_i32 : BitVec 32 := 256#32
  let c0_i32_173 : BitVec 32 := 0#32
  let c1_i32_174 : BitVec 32 := 1#32
  let arg13 : BitVec 32 := Scf.iv c0_i32_173 c1_i32_174 k0_t1
  let c128_i32_361 : BitVec 32 := 128#32
  let v786 : BitVec 32 := Scalar.muli arg13 c128_i32_361
  let v787 : BitVec 32 := Scalar.addi c256_i32 v786
  let v788 : BitVec 32 := v787
  let v1147 : Index := Scalar.indexCast v788
  let c448_496 : Index := 448#32
  ![0, v1147.toNat, 448]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2304x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2304x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Proof.FfnBlock.lean ====
/-
  What one grid point of the experts' feed-forward kernel computes, over the extended reals. The grid runs over the
  sixteen experts and, inside an expert, over four chunks of 512 hidden units. Two accumulators (the latent rows and the
  context rows) are cleared at the first chunk and gain the chunk's share of the output at every chunk; at the last chunk
  they are written out.
-/
module

public import proofs.«01_k».proof.Proof.Gen.KernelIdeal.Value
public import Idealize.ShloMosaic.Lib.Pipeline.ValueKit.Point
public import Idealize.ShloMosaic.Lib.Pipeline.ReadBack

@[expose] public section

noncomputable section

open Idealize.ShloMosaic Idealize.ShloMosaic.TcCoe Idealize.SL.Sem

namespace Cert.KernelIdeal.Ffn

open Cert.KernelIdeal Cert.KernelIdeal.Gen

/-- The gate's activation, `g · 1/(1 + exp(-g))`. -/
def silu (g : EReal) : EReal := g * Ideal.div 1 (1 + Ideal.exp (-g))

/-- What one chunk of 512 hidden units adds to one entry of the expert's output: `n` rows `x` against the chunk's gate, up
    and down weights. -/
def part {n : ℕ} (x : FVec Ideal ⟨3, ![1, n, 1024]⟩ .bf16) (wg wu : FVec Ideal S1x1x1024x512 .f32)
    (wd : FVec Ideal S1x1x512x1024 .f32) (r : Fin n) (o : Fin 1024) : EReal :=
  ∑ f : Fin 512, silu (∑ d : Fin 1024, x (ix3 0 r d) * wg (ix4 0 0 d f)) * (∑ d : Fin 1024, x (ix3 0 r d) * wu (ix4 0 0 d f))
    * wd (ix4 0 0 f o)

variable (m : (ℓ : Loc nD τ sig) → Buf (Elt Ideal) ℓ)

/-- The chunk's share at a grid point for the latent rows. -/
def partX (c : Dev nD) (t : Fin cfg0.N) (j : S2048x1024.Idx) : EReal :=
  part (n := 2048) (iblk m c 0 t) (iblk m c 2 t) (iblk m c 3 t) (iblk m c 4 t) (j 0) (j 1)

/-- The chunk's share at a grid point for the context rows. -/
def partC (c : Dev nD) (t : Fin cfg0.N) (j : S256x1024.Idx) : EReal :=
  part (n := 256) (iblk m c 1 t) (iblk m c 2 t) (iblk m c 3 t) (iblk m c 4 t) (j 0) (j 1)

/-- The share of a run of 512 of the latent rows is the share of these rows in the whole block. -/
theorem part_tile (o : ℕ) (ho : o + 512 ≤ 2048) (x : FVec Ideal S1x2048x1024 .bf16) (x' : FVec Ideal S1x512x1024 .bf16)
    (wg wu : FVec Ideal S1x1x1024x512 .f32) (wd : FVec Ideal S1x1x512x1024 .f32)
    (hx : ∀ (r : Fin 512) (d : Fin 1024), x' (ix3 0 r d) = x (ix3 0 ⟨o + r, by omega⟩ d)) (i : S512x1024.Idx) (j : S2048x1024.Idx)
    (h0 : (j 0 : ℕ) = o + i 0) (h1 : (j 1 : ℕ) = i 1) :
    part (n := 512) x' wg wu wd (i 0) (i 1) = part (n := 2048) x wg wu wd (j 0) (j 1) := by
  have e0 : j 0 = (⟨o + i 0, by have := (i 0).isLt; simp at this; omega⟩ : Fin 2048) := Fin.ext h0
  have e1 : j 1 = (i 1 : Fin 1024) := Fin.ext h1
  rw [e0, e1]; unfold part; exact Finset.sum_congr rfl fun f _ => by simp only [fun d => hx (i 0) d]

/-- What the first run of 512 latent rows stores: its accumulated rows and the chunk's share. -/
theorem tile0 (acc : FVec Ideal S512x1024 .f32) (x : FVec Ideal S1x512x1024 .bf16) (wg wu : FVec Ideal S1x1x1024x512 .f32)
    (wd : FVec Ideal S1x1x512x1024 .f32) (j : S512x1024.Idx) :
    k0_pay11 (F := Ideal) acc (k0_pay9 (F := Ideal) x) (k0_pay10 (F := Ideal) x (k0_pay4 (F := Ideal) wg)) (k0_pay5 (F := Ideal) wu)
      (k0_pay6 (F := Ideal) wd) j = acc j + part x wg wu wd (j 0) (j 1) := by
  unfold_payloads; unfold part silu; pointwise; simp only [zero_sub]

/-- What the second run of 512 latent rows stores: its accumulated rows and the chunk's share. -/
theorem tile1 (acc : FVec Ideal S512x1024 .f32) (x : FVec Ideal S1x512x1024 .bf16) (wg wu : FVec Ideal S1x1x1024x512 .f32)
    (wd : FVec Ideal S1x1x512x1024 .f32) (j : S512x1024.Idx) :
    k0_pay13 (F := Ideal) acc (k0_pay12 (F := Ideal) x (k0_pay4 (F := Ideal) wg) (k0_pay5 (F := Ideal) wu)) (k0_pay6 (F := Ideal) wd) j
      = acc j + part x wg wu wd (j 0) (j 1) := by
  unfold_payloads; unfold part silu; pointwise; simp only [zero_sub]

/-- What the third run of 512 latent rows stores: its accumulated rows and the chunk's share. -/
theorem tile2 (acc : FVec Ideal S512x1024 .f32) (x : FVec Ideal S1x512x1024 .bf16) (wg wu : FVec Ideal S1x1x1024x512 .f32)
    (wd : FVec Ideal S1x1x512x1024 .f32) (j : S512x1024.Idx) :
    k0_pay14 (F := Ideal) acc x (k0_pay4 (F := Ideal) wg) (k0_pay5 (F := Ideal) wu) (k0_pay6 (F := Ideal) wd) j
      = acc j + part x wg wu wd (j 0) (j 1) := by
  unfold_payloads; unfold part silu; pointwise; simp only [zero_sub]

/-- What the fourth run of 512 latent rows stores: its accumulated rows and the chunk's share. -/
theorem tile3 (acc : FVec Ideal S512x1024 .f32) (x : FVec Ideal S1x512x1024 .bf16) (wg wu : FVec Ideal S1x1x1024x512 .f32)
    (wd : FVec Ideal S1x1x512x1024 .f32) (j : S512x1024.Idx) :
    k0_pay15 (F := Ideal) acc x (k0_pay4 (F := Ideal) wg) (k0_pay5 (F := Ideal) wu) (k0_pay6 (F := Ideal) wd) j
      = acc j + part x wg wu wd (j 0) (j 1) := by
  unfold_payloads; unfold part silu; pointwise; simp only [zero_sub]

/-- Stores that reach an index hide whatever was stored there before them. -/
theorem canon_append_of_cover {S : Shape} {e : EltTy} (L' L : List (View.Piece (Elt Ideal) S e)) (y : S.Idx)
    (hy : ∃ p ∈ L, y ∈ p.1.set) : View.canon (L ++ L') y = View.canon L y := by
  induction L with
  | nil => obtain ⟨p, hp, _⟩ := hy; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := hy
      rcases List.mem_cons.mp hq with rfl | hq'
      · exact absurd hyq hm
      · exact ih ⟨q, hq', hyq⟩

/-- The first chunk leaves its own share in the latent rows' accumulator. -/
theorem accX_first (c : Dev nD) (t : Fin cfg0.N) (h0 : t.val % 4 = 0) (h1 : ¬t.val % 4 = 3) (j : S2048x1024.Idx) :
    (outsAt0 m c t.val t.isLt).2.2.1 j = partX m c t j := by
  rw [outsAt0_A m c t h0 h1]; frame_out
  simp (disch := first | rfl | decide | (intro a; fin_cases a <;> rfl)) only [↓View.readCov_skip, ↓View.readCov_fill]
  refine (canon_append_of_cover [_] [_, _, _, _] j (View.cover_of_tiled_head _ _ _ (by rfl) j)).trans ?_
  canon_tiles x h
  · rw [tile3]
    refine (congrArg (· + _) (show _ = (0 : EReal) from ?_)).trans ((zero_add _).trans
      (part_tile 1536 (by norm_num) _ _ _ _ _ (fun r d => by pointwise) _ _ h0 h1))
    pointwise [k0_pay7]
  · rw [tile2]
    refine (congrArg (· + _) (show _ = (0 : EReal) from ?_)).trans ((zero_add _).trans
      (part_tile 1024 (by norm_num) _ _ _ _ _ (fun r d => by pointwise) _ _ h0 h1))
    pointwise [k0_pay7]
  · rw [tile1]
    refine (congrArg (· + _) (show _ = (0 : EReal) from ?_)).trans ((zero_add _).trans
      (part_tile 512 (by norm_num) _ _ _ _ _ (fun r d => by pointwise) _ _ h0 h1))
    pointwise [k0_pay7]
  · rw [tile0]
    refine (congrArg (· + _) (show _ = (0 : EReal) from ?_)).trans ((zero_add _).trans
      (part_tile 0 (by norm_num) _ _ _ _ _ (fun r d => by pointwise) _ _ (by omega) h1))
    pointwise [k0_pay7]

/-- A later chunk adds its share to the latent rows' accumulator. -/
theorem accX_mid (c : Dev nD) (t : Fin cfg0.N) (h0 : ¬t.val % 4 = 0) (h1 : ¬t.val % 4 = 3) (j : S2048x1024.Idx) :
    (outsAt0 m c t.val t.isLt).2.2.1 j
      = (outsAt0 m c (t.val - 1) (Nat.lt_of_le_of_lt (Nat.sub_le t.val 1) t.isLt)).2.2.1 j + partX m c t j := by
  rw [outsAt0_B m c t h0 h1]; frame_out
  canon_tiles x h
  all_goals
    rw [(Memref.isWhole_whole _).read_unread]
    unfold_payloads; unfold partX part silu
    pointwise
    simp only [zero_sub]
    blk_point

/-- So does the last one. -/
theorem accX_last (c : Dev nD) (t : Fin cfg0.N) (h0 : ¬t.val % 4 = 0) (h1 : t.val % 4 = 3) (j : S2048x1024.Idx) :
    (outsAt0 m c t.val t.isLt).2.2.1 j
      = (outsAt0 m c (t.val - 1) (Nat.lt_of_le_of_lt (Nat.sub_le t.val 1) t.isLt)).2.2.1 j + partX m c t j := by
  rw [outsAt0_C m c t h0 h1]; frame_out
  canon_tiles x h
  all_goals
    rw [(Memref.isWhole_whole _).read_unread]
    unfold_payloads; unfold partX part silu
    pointwise
    simp only [zero_sub]
    blk_point

/-- The latent rows written at the last chunk are the accumulator as that chunk leaves it. -/
theorem outX_last (c : Dev nD) (t : Fin cfg0.N) (h0 : ¬t.val % 4 = 0) (h1 : t.val % 4 = 3) (y : S1x2048x1024.Idx) :
    (outsAt0 m c t.val t.isLt).1 y = (outsAt0 m c t.val t.isLt).2.2.1 (ix2 (y 1) (y 2)) := by
  rw [outsAt0_C m c t h0 h1]; frame_out
  unfold k0_pay2
  simp only [View.readCov_eq_canon']
  pointwise

/-- The first chunk leaves its own share in the context rows' accumulator. -/
theorem accC_first (c : Dev nD) (t : Fin cfg0.N) (h0 : t.val % 4 = 0) (h1 : ¬t.val % 4 = 3) (j : S256x1024.Idx) :
    (outsAt0 m c t.val t.isLt).2.2.2 j = partC m c t j := by
  rw [outsAt0_A m c t h0 h1]; frame_out
  unfold_payloads; unfold partC part silu
  pointwise
  simp only [zero_sub]

/-- A later chunk adds its share to the context rows' accumulator. -/
theorem accC_mid (c : Dev nD) (t : Fin cfg0.N) (h0 : ¬t.val % 4 = 0) (h1 : ¬t.val % 4 = 3) (j : S256x1024.Idx) :
    (outsAt0 m c t.val t.isLt).2.2.2 j
      = (outsAt0 m c (t.val - 1) (Nat.lt_of_le_of_lt (Nat.sub_le t.val 1) t.isLt)).2.2.2 j + partC m c t j := by
  rw [outsAt0_B m c t h0 h1]; frame_out
  rw [(Memref.isWhole_whole _).read_unread]
  unfold_payloads; unfold partC part silu
  pointwise
  simp only [zero_sub]

/-- So does the last one. -/
theorem accC_last (c : Dev nD) (t : Fin cfg0.N) (h0 : ¬t.val % 4 = 0) (h1 : t.val % 4 = 3) (j : S256x1024.Idx) :
    (outsAt0 m c t.val t.isLt).2.2.2 j
      = (outsAt0 m c (t.val - 1) (Nat.lt_of_le_of_lt (Nat.sub_le t.val 1) t.isLt)).2.2.2 j + partC m c t j := by
  rw [outsAt0_C m c t h0 h1]; frame_out
  rw [(Memref.isWhole_whole _).read_unread]
  unfold_payloads; unfold partC part silu
  pointwise
  simp only [zero_sub]

/-- The context rows written at the last chunk are the accumulator as that chunk leaves it. -/
theorem outC_last (c : Dev nD) (t : Fin cfg0.N) (h0 : ¬t.val % 4 = 0) (h1 : t.val % 4 = 3) (y : S1x256x1024.Idx) :
    (outsAt0 m c t.val t.isLt).2.1 y = (outsAt0 m c t.val t.isLt).2.2.2 (ix2 (y 1) (y 2)) := by
  rw [outsAt0_C m c t h0 h1]; frame_out
  unfold k0_pay3
  pointwise

end Cert.KernelIdeal.Ffn
-- ==== Proof.FfnArray.lean ====
/-
  What the feed-forward kernel's two result arrays hold: for every expert the chunks' shares add up to the sum over all
  2048 hidden units, for the latent rows and for the context rows.
-/
module

public import proofs.«01_k».proof.Proof.FfnBlock

@[expose] public section

noncomputable section

open Idealize.ShloMosaic Idealize.ShloMosaic.TcCoe Idealize.SL.Sem

namespace Cert.KernelIdeal.Ffn

open Cert.KernelIdeal Cert.KernelIdeal.Gen

/-- The gated feed-forward network of the experts of layer 1, entry by entry: expert `i 0`, row `i 1`, output `i 2`. -/
def expert {n : ℕ} (x : FVec Ideal ⟨3, ![16, n, 1024]⟩ .bf16) (wg wu : FVec Ideal S4x16x1024x2048 .f32)
    (wd : FVec Ideal S4x16x2048x1024 .f32) (e : Fin 16) (r : Fin n) (o : Fin 1024) : EReal :=
  ∑ f : Fin 2048, silu (∑ d : Fin 1024, x (ix3 e r d) * wg (ix4 1 e d f)) * (∑ d : Fin 1024, x (ix3 e r d) * wu (ix4 1 e d f))
    * wd (ix4 1 e f o)

/-- Which blocks a grid point reads and writes: the expert is the point's number over four, the chunk its remainder. -/
theorem idx : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 4) = 1 ∧ win0_2.index t (1 : Fin 4) = t.val / 4 ∧ win0_2.index t (2 : Fin 4) = 0 ∧ win0_2.index t (3 : Fin 4) = t.val % 4)
    ∧ (win0_3.index t (0 : Fin 4) = 1 ∧ win0_3.index t (1 : Fin 4) = t.val / 4 ∧ win0_3.index t (2 : Fin 4) = 0 ∧ win0_3.index t (3 : Fin 4) = t.val % 4)
    ∧ (win0_4.index t (0 : Fin 4) = 1 ∧ win0_4.index t (1 : Fin 4) = t.val / 4 ∧ win0_4.index t (2 : Fin 4) = t.val % 4 ∧ win0_4.index t (3 : Fin 4) = 0)
    ∧ (win0_5.index t (0 : Fin 3) = t.val / 4 ∧ win0_5.index t (1 : Fin 3) = 0 ∧ win0_5.index t (2 : Fin 3) = 0)
    ∧ (win0_6.index t (0 : Fin 3) = t.val / 4 ∧ win0_6.index t (1 : Fin 3) = 0 ∧ win0_6.index t (2 : Fin 3) = 0) :=
  (by decide +kernel : ∀ t : Fin grid0.N, _)

variable (m : (ℓ : Loc nD τ sig) → Buf (Elt Ideal) ℓ)

/-- The latent rows' result. -/
def outX (c : Dev nD) : Buf (Elt Ideal) ((c : Thread nD τ).loc main_v0_0) := fun i : S16x2048x1024.Idx =>
  expert (n := 2048) (m ((c : Thread nD τ).loc main_arg0)) (m ((c : Thread nD τ).loc main_arg2)) (m ((c : Thread nD τ).loc main_arg3))
    (m ((c : Thread nD τ).loc main_arg4)) (i 0) (i 1) (i 2)

/-- The context rows' result. -/
def outC (c : Dev nD) : Buf (Elt Ideal) ((c : Thread nD τ).loc main_v0_1) := fun i : S16x256x1024.Idx =>
  expert (n := 256) (m ((c : Thread nD τ).loc main_arg1)) (m ((c : Thread nD τ).loc main_arg2)) (m ((c : Thread nD τ).loc main_arg3))
    (m ((c : Thread nD τ).loc main_arg4)) (i 0) (i 1) (i 2)

/-- At an expert's last chunk the latent rows' accumulator holds the sum of the four shares. -/
theorem accX_sum (c : Dev nD) (t : Fin cfg0.N) (ht : t.val % 4 = 3) (j : S2048x1024.Idx) :
    (outsAt0 m c t.val t.isLt).2.2.1 j
      = ∑ s : Fin 4, partX m c ⟨4 * (t.val / 4) + s.val, Pipeline.run_point_lt_of_flush t ht s⟩ j := by
  rw [Pipeline.eq_sum_fin_of_reset_step_apply_of_flush (fun n h => (outsAt0 m c n h).2.2.1) 4 (fun _ => (0 : EReal)) (partX m c)
    (fun t h i => (accX_first m c t h (by omega) i).trans (zero_add _).symm)
    (fun t h i => by
      by_cases h1 : t.val % 4 = 3
      · exact accX_last m c t h h1 i
      · exact accX_mid m c t h h1 i) t ht j]
  exact zero_add _

/-- At an expert's last chunk the context rows' accumulator holds the sum of the four shares. -/
theorem accC_sum (c : Dev nD) (t : Fin cfg0.N) (ht : t.val % 4 = 3) (j : S256x1024.Idx) :
    (outsAt0 m c t.val t.isLt).2.2.2 j
      = ∑ s : Fin 4, partC m c ⟨4 * (t.val / 4) + s.val, Pipeline.run_point_lt_of_flush t ht s⟩ j := by
  rw [Pipeline.eq_sum_fin_of_reset_step_apply_of_flush (fun n h => (outsAt0 m c n h).2.2.2) 4 (fun _ => (0 : EReal)) (partC m c)
    (fun t h i => (accC_first m c t h (by omega) i).trans (zero_add _).symm)
    (fun t h i => by
      by_cases h1 : t.val % 4 = 3
      · exact accC_last m c t h h1 i
      · exact accC_mid m c t h h1 i) t ht j]
  exact zero_add _

/-- The block of latent rows written back at an expert's last chunk is that expert's block of the result. -/
theorem flushedX (c : Dev nD) (t : Fin cfg0.N) (hf : (cfg0.win 5).flush t = true) :
    (dats m 0 c).flushed 5 t = ((cfg0.win 5).blk t).view.read (Elt Ideal) (outX m c) := by
  have ht : t.val % 4 = 3 := (flush0_5 t).mp hf
  rw [Value.flushed5]
  funext y
  show (outsAt0 m c t.val t.isLt).1 ((cfg0.win 5).xinj (grid0.coords t) y) = outX m c (((cfg0.win 5).blk t).view.emb y)
  rw [outX_last m c t (by omega) ht, accX_sum m c t ht]
  unfold partX part outX expert
  refine Fin.sum_mul_add_congr fun s k hl => ?_
  have e := idx t
  have e' := idx ⟨4 * (t.val / 4) + s.val, Pipeline.run_point_lt_of_flush t ht s⟩
  blk_point [iblk, V, e, e']

/-- The block of context rows written back at an expert's last chunk is that expert's block of the result. -/
theorem flushedC (c : Dev nD) (t : Fin cfg0.N) (hf : (cfg0.win 6).flush t = true) :
    (dats m 0 c).flushed 6 t = ((cfg0.win 6).blk t).view.read (Elt Ideal) (outC m c) := by
  have ht : t.val % 4 = 3 := (flush0_6 t).mp hf
  rw [Value.flushed6]
  funext y
  show (outsAt0 m c t.val t.isLt).2.1 ((cfg0.win 6).xinj (grid0.coords t) y) = outC m c (((cfg0.win 6).blk t).view.emb y)
  rw [outC_last m c t (by omega) ht, accC_sum m c t ht]
  unfold partC part outC expert
  refine Fin.sum_mul_add_congr fun s k hl => ?_
  have e := idx t
  have e' := idx ⟨4 * (t.val / 4) + s.val, Pipeline.run_point_lt_of_flush t ht s⟩
  blk_point [iblk, V, e, e']

/-- The latent rows' array after the run. -/
theorem finalX (c : Dev nD) : (dats m 0 c).arrAt 5 cfg0.N = outX m c :=
  (dats m 0 c).arrAt_eq_of_cover 5 _ (fun t hf => flushedX m c t hf) (fun i => (Value.covered_iff5 i).2 (by
    have h0 : (i 0).val < 16 := (i 0).isLt; have h1 : (i 1).val < 2048 := (i 1).isLt; have h2 : (i 2).val < 1024 := (i 2).isLt; omega))

/-- The context rows' array after the run. -/
theorem finalC (c : Dev nD) : (dats m 0 c).arrAt 6 cfg0.N = outC m c :=
  (dats m 0 c).arrAt_eq_of_cover 6 _ (fun t hf => flushedC m c t hf) (fun i => (Value.covered_iff6 i).2 (by
    have h0 : (i 0).val < 16 := (i 0).isLt; have h1 : (i 1).val < 256 := (i 1).isLt; have h2 : (i 2).val < 1024 := (i 2).isLt; omega))

end Cert.KernelIdeal.Ffn
-- ==== Proof.FfnRef.lean ====
/-
  What the plain feed-forward reference computes, entry by entry, over the extended reals: the same gated network.
-/
module

public import proofs.«01_k».proof.Proof.FfnArray
public import proofs.«01_k».proof.Proof.Gen.ReferenceIdeal.Run
public import proofs.«01_k».proof.Proof.Gen.ReferenceIdeal.Read

@[expose] public section

noncomputable section

open Idealize.ShloMosaic Idealize.ShloMosaic.TcCoe Idealize.SL.Sem

namespace Cert.ReferenceIdeal.Ffn

open Cert.ReferenceIdeal Cert.ReferenceIdeal.Gen Cert.ReferenceIdeal.Read
open Cert.KernelIdeal.Ffn (expert silu)

/-- The reference's latent rows are the gated network of the layer's experts. -/
theorem latent (x : FVec Ideal S16x2048x1024 .bf16) (wg wu : FVec Ideal S4x16x1024x2048 .f32) (wd : FVec Ideal S4x16x2048x1024 .f32)
    (i : S16x2048x1024.Idx) :
    val_main_v12 (F := Ideal) x wg wu wd i = expert (n := 2048) x wg wu wd (i 0) (i 1) (i 2) := by
  unfold expert silu
  pointwise [val_main_v12, val_main_v11, val_main_v10, val_main_v9, val_main_v8, val_main_call0_v5, val_main_call0_v4, val_main_call0_v3,
    val_main_call0_v2, val_main_call0_v1, val_main_call0_v0, val_main_call0_cst, val_main_call0_cst_0, val_main_v7, val_main_v6, val_main_v5,
    val_main_v4, val_main_v3, val_main_v2, val_main_v1, val_main_v0]

/-- The reference's context rows are the same network. -/
theorem context (x : FVec Ideal S16x256x1024 .bf16) (wg wu : FVec Ideal S4x16x1024x2048 .f32) (wd : FVec Ideal S4x16x2048x1024 .f32)
    (i : S16x256x1024.Idx) :
    val_main_v19 (F := Ideal) x wg wu wd i = expert (n := 256) x wg wu wd (i 0) (i 1) (i 2) := by
  unfold expert silu
  pointwise [val_main_v19, val_main_v18, val_main_v17, val_main_v16, val_main_v15, val_main_call1_v5, val_main_call1_v4, val_main_call1_v3,
    val_main_call1_v2, val_main_call1_v1, val_main_call1_v0, val_main_call1_cst, val_main_call1_cst_0, val_main_v14, val_main_v13, val_main_v5,
    val_main_v4, val_main_v3, val_main_v2, val_main_v1, val_main_v0]

end Cert.ReferenceIdeal.Ffn
-- ==== Proof.FfnClaim.lean ====
/-
  The feed-forward kernel's claims: its launches and the reference's run to the end and leave their arguments alone, and
  over the extended reals both give the same two arrays.
-/
module

public import proofs.«01_k».proof.Defs
public import proofs.«01_k».proof.Proof.FfnRef
public import proofs.«01_k».proof.Proof.Gen.Kernel.Frame

@[expose] public section

noncomputable section

open Idealize.ShloMosaic Idealize.ShloMosaic.TcCoe Idealize.SL.Sem

namespace Cert.Proof.Ffn

/-- The kernel as printed runs, keeps its arguments and ends with every counter at zero. -/
theorem frame : Cert.quiescent_Kernel := fun m ρ _ => Cert.Kernel.Gen.frame m ρ

/-- So does its ideal reading. -/
theorem frame_ideal : Cert.quiescent_KernelIdeal := fun m ρ _ => Cert.KernelIdeal.Gen.frame m ρ

/-- So does the reference. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- No operation was rewritten between the kernel and its ideal reading. -/
theorem preserves : Cert.preserves_Kernel_KernelIdeal := trivial

open Cert.KernelIdeal.Ffn in
/-- Over the extended reals the kernel's two arrays are the reference's. -/
theorem algebraic : Cert.algebraic_KernelIdeal_ReferenceIdeal := by
  intro m ρ m' ρ' _ hagree
  refine ⟨outX m, outC m, ?_, ?_⟩
  · refine (θ_run Cert.KernelIdeal.defs _ _).mono (fun r h c => ?_) (Cert.KernelIdeal.Value.run (F := Ideal) m ρ)
    obtain ⟨h0, h1, hk⟩ := h c
    exact ⟨h0.trans ((Cert.KernelIdeal.Value.final5 m c).symm.trans (finalX m c)),
      h1.trans ((Cert.KernelIdeal.Value.final6 m c).symm.trans (finalC m c)), hk⟩
  · refine (θ_run Cert.ReferenceIdeal.defs _ _).mono (fun r h c => ?_) (Cert.ReferenceIdeal.Value.run (F := Ideal) m' ρ')
    obtain ⟨h0, h1, hk⟩ := h c
    obtain ⟨a0, a1, a2, a3, a4⟩ := hagree c
    refine ⟨(h0.trans (Cert.ReferenceIdeal.Read.val_main_v12_eq ..)).trans ?_, (h1.trans (Cert.ReferenceIdeal.Read.val_main_v19_eq ..)).trans ?_, hk⟩
    · rw [a0, a2, a3, a4]; exact funext fun i => Cert.ReferenceIdeal.Ffn.latent _ _ _ _ i
    · rw [a1, a2, a3, a4]; exact funext fun i => Cert.ReferenceIdeal.Ffn.context _ _ _ _ i

end Cert.Proof.Ffn
-- ==== Proof.Norm.lean ====
/-
  The modulated root-mean-square norm of one row of 1024 numbers, over the extended reals: the row over the root of its
  mean square (with the layer's small constant), times the norm's gain, scaled and shifted by the modulation.
-/
module

public import proofs.«01_k».proof.Proof.FfnClaim

@[expose] public section

noncomputable section

open Idealize.ShloMosaic Idealize.ShloMosaic.TcCoe Idealize.SL.Sem

namespace Cert.Layer

/-- Entry `d` of the modulated norm of the row `x`, with gain `g`, shift `b` and scale `s`: the two words are 1024 and the
    constant 1e-6. -/
def normed (x g b s : Fin 1024 → EReal) (d : Fin 1024) : EReal :=
  x d * Ideal.rsqrt (Ideal.div (∑ k : Fin 1024, x k * x k) (Ideal.ofBits .f32 0x44800000#32) + Ideal.ofBits .f32 0x358637BD#32) * g d
    * (1 + s d) + b d

/-- A row of 1024 numbers against a column. -/
def against (x w : Fin 1024 → EReal) : EReal := ∑ d : Fin 1024, x d * w d

end Cert.Layer
-- ==== Proof.InprojBlock.lean ====
/-
  What one grid point of the input projection's kernel computes, over the extended reals. A point takes 256 rows, norms
  and modulates them, and multiplies them with all 6928 columns of the projection's weights, 512 columns at a time.
-/
module

public import proofs.«01_k».proof.Proof.Norm
public import proofs.«01_k».proof.Proof.Gen.InprojIdeal.Value

@[expose] public section

noncomputable section

open Idealize.ShloMosaic Idealize.ShloMosaic.TcCoe Idealize.SL.Sem

namespace Cert.InprojIdeal.Proj

open Cert.InprojIdeal Cert.InprojIdeal.Gen
open Cert.Layer (normed against)

variable (m : (ℓ : Loc nD τ sig) → Buf (Elt Ideal) ℓ)

/-- Row `r` of a point's 256 rows, normed and modulated. -/
def rows (c : Dev nD) (t : Fin cfg0.N) (r : Fin 256) : Fin 1024 → EReal :=
  let x : FVec Ideal S1x256x1024 .f32 := iblk m c 0 t
  let mo : FVec Ideal S1x1x6x1024 .f32 := iblk m c 1 t
  let g : FVec Ideal S1x1024 .f32 := iblk m c 2 t
  normed (fun k => x (ix3 0 r k)) (fun k => g (ix2 0 k)) (fun k => mo (ix4 0 0 0 k)) (fun k => mo (ix4 0 0 1 k))

/-- Column `k` of the weights the point holds. -/
def col (c : Dev nD) (t : Fin cfg0.N) (k : Fin 6912) : Fin 1024 → EReal :=
  let w : FVec Ideal S1024x6912 .bf16 := iblk m c 3 t
  fun d => w (ix2 d k)

/-- The first output gets the products with columns 0 to 2047. -/
theorem out5 (c : Dev nD) (t : Fin cfg0.N) (j : S1x256x2048.Idx) : (outsAt0 m c t).1 j
    = against (rows m c t (j 1)) (col m c t ⟨0 + (j 2).val, by have := (j 2).isLt; simp at this; omega⟩) := by
  unfold outsAt0; frame_out
  canon_tiles x h
  all_goals (unfold_payloads; unfold against rows col normed; pointwise; blk_point [h0, h1, h2])

/-- The second output gets the products with columns 2048 to 2815. -/
theorem out6 (c : Dev nD) (t : Fin cfg0.N) (j : S1x256x768.Idx) : (outsAt0 m c t).2.1 j
    = against (rows m c t (j 1)) (col m c t ⟨2048 + (j 2).val, by have := (j 2).isLt; simp at this; omega⟩) := by
  unfold outsAt0; frame_out
  canon_tiles x h using (View.cover_of_tiledBy _ ![1, 256, 256] (by sl_kernel_rfl) j)
  all_goals (unfold_payloads; unfold against rows col normed; pointwise; blk_point [h0, h1, h2])

/-- The third output gets the products with columns 2816 to 3839. -/
theorem out7 (c : Dev nD) (t : Fin cfg0.N) (j : S1x256x1024.Idx) : (outsAt0 m c t).2.2.1 j
    = against (rows m c t (j 1)) (col m c t ⟨2816 + (j 2).val, by have := (j 2).isLt; simp at this; omega⟩) := by
  unfold outsAt0; frame_out
  canon_tiles x h
  all_goals (unfold_payloads; unfold against rows col normed; pointwise; blk_point [h0, h1, h2])

/-- The fourth output gets the products with columns 3840 to 6911. -/
theorem out8 (c : Dev nD) (t : Fin cfg0.N) (j : S1x256x3072.Idx) : (outsAt0 m c t).2.2.2.1 j
    = against (rows m c t (j 1)) (col m c t ⟨3840 + (j 2).val, by have := (j 2).isLt; simp at this; omega⟩) := by
  unfold outsAt0; frame_out
  canon_tiles x h
  all_goals (unfold_payloads; unfold against rows col normed; pointwise; blk_point [h0, h1, h2])

/-- The fifth output gets the products with the sixteen columns held apart. -/
theorem out9 (c : Dev nD) (t : Fin cfg0.N) (j : S1x256x16.Idx) : (outsAt0 m c t).2.2.2.2 j
    = against (rows m c t (j 1)) (fun d => (iblk m c 4 t : FVec Ideal S1024x16 .bf16) (ix2 d (j 2))) := by
  unfold outsAt0; frame_out
  unfold_payloads; unfold against rows normed; pointwise

end Cert.InprojIdeal.Proj
-- ==== Proof.InprojArray.lean ====
/-
  What the input projection's five result arrays hold: every row of every batch element, normed and modulated (the first
  256 rows with the context's modulation, the others with the latents'), against the columns of the projection's weights.
-/
module

public import proofs.«01_k».proof.Proof.InprojBlock

@[expose] public section

noncomputable section

open Idealize.ShloMosaic Idealize.ShloMosaic.TcCoe Idealize.SL.Sem

namespace Cert.InprojIdeal.Proj

open Cert.InprojIdeal Cert.InprojIdeal.Gen
open Cert.Layer (normed against)

/-- Which of the two modulations a row takes: the first for the 256 context rows, the second for the latent rows. -/
def part (r : Fin 2304) : Fin 2 := if r.val < 256 then 0 else 1

/-- One entry of the projection: batch element `b`, row `r`, column `k` of the weights. -/
def entry (x : FVec Ideal S8x2304x1024 .f32) (mo : FVec Ideal S8x2x6x1024 .f32) (g : FVec Ideal S1024 .f32)
    (w : FVec Ideal S1024x6928 .f32) (b : Fin 8) (r : Fin 2304) (k : Fin 6928) : EReal :=
  against (normed (fun d => x (ix3 b r d)) (fun d => g (ix1 d)) (fun d => mo (ix4 b (part r) 0 d)) (fun d => mo (ix4 b (part r) 1 d)))
    (fun d => w (ix2 d k))

/-- Which blocks a grid point reads and writes: the batch element is the point's number over nine, the run of 256 rows
    its remainder; the first run is the context's. -/
theorem idx : ∀ t : Fin cfg0.N,
    (win0_0.index t (0 : Fin 3) = t.val / 9 ∧ win0_0.index t (1 : Fin 3) = t.val % 9 ∧ win0_0.index t (2 : Fin 3) = 0)
    ∧ (win0_1.index t (0 : Fin 4) = t.val / 9 ∧ win0_1.index t (1 : Fin 4) = min (t.val % 9) 1 ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 9 ∧ win0_5.index t (1 : Fin 3) = t.val % 9 ∧ win0_5.index t (2 : Fin 3) = 0)
    ∧ (win0_6.index t (0 : Fin 3) = t.val / 9 ∧ win0_6.index t (1 : Fin 3) = t.val % 9 ∧ win0_6.index t (2 : Fin 3) = 0)
    ∧ (win0_7.index t (0 : Fin 3) = t.val / 9 ∧ win0_7.index t (1 : Fin 3) = t.val % 9 ∧ win0_7.index t (2 : Fin 3) = 0)
    ∧ (win0_8.index t (0 : Fin 3) = t.val / 9 ∧ win0_8.index t (1 : Fin 3) = t.val % 9 ∧ win0_8.index t (2 : Fin 3) = 0)
    ∧ (win0_9.index t (0 : Fin 3) = t.val / 9 ∧ win0_9.index t (1 : Fin 3) = t.val % 9 ∧ win0_9.index t (2 : Fin 3) = 0) :=
  (by decide +kernel : ∀ t : Fin grid0.N, _)

variable (m : (ℓ : Loc nD τ sig) → Buf (Elt Ideal) ℓ)

/-- The entry of the projection of the launch's arguments. -/
def entryAt (c : Dev nD) : Fin 8 → Fin 2304 → Fin 6928 → EReal :=
  entry (m ((c : Thread nD τ).loc main_arg0)) (m ((c : Thread nD τ).loc main_arg1)) (m ((c : Thread nD τ).loc main_arg2))
    (m ((c : Thread nD τ).loc main_arg3))

/-- The batch element of a point. -/
def bOf (t : Fin cfg0.N) : Fin 8 := ⟨t.val / 9, by have := t.isLt; have e : cfg0.N = 72 := rfl; omega⟩

/-- The row of the array that is a point's row `r`. -/
def rOf (t : Fin cfg0.N) (r : Fin 256) : Fin 2304 := ⟨t.val % 9 * 256 + r.val, by omega⟩

/-- A point's normed rows are rows of the launch's arguments, normed and modulated. -/
theorem rows_eq (c : Dev nD) (t : Fin cfg0.N) (r : Fin 256) : rows m c t r =
    normed (fun d => (m ((c : Thread nD τ).loc main_arg0) : FVec Ideal S8x2304x1024 .f32) (ix3 (bOf t) (rOf t r) d))
      (fun d => (m ((c : Thread nD τ).loc main_arg2) : FVec Ideal S1024 .f32) (ix1 d))
      (fun d => (m ((c : Thread nD τ).loc main_arg1) : FVec Ideal S8x2x6x1024 .f32) (ix4 (bOf t) (part (rOf t r)) 0 d))
      (fun d => (m ((c : Thread nD τ).loc main_arg1) : FVec Ideal S8x2x6x1024 .f32) (ix4 (bOf t) (part (rOf t r)) 1 d)) := by
  have e := idx t
  have hp : (part (rOf t r)).val = min (t.val % 9) 1 := by
    unfold part rOf; split <;> rename_i h <;> simp at h ⊢ <;> omega
  have hb : (bOf t).val = t.val / 9 := rfl
  have hr : (rOf t r).val = t.val % 9 * 256 + r.val := rfl
  unfold rows; congr 1 <;> funext k
  all_goals (blk_ext! [iblk, V, e, hp, hb, hr])

/-- A column below 2048 of the point's weights is that column of the projection's weights. -/
theorem col_lo (c : Dev nD) (t : Fin cfg0.N) (k : Fin 6912) (k' : Fin 6928) (h : k.val < 2048) (hk : k'.val = k.val) :
    col m c t k = fun d => (m ((c : Thread nD τ).loc main_arg3) : FVec Ideal S1024x6928 .f32) (ix2 d k') := by
  have e := idx t
  unfold col; funext d
  blk_simp [iblk, e]; entry_read; pointwise
  split <;> rename_i h'
  · blk_ext [e, hk]
  · exact absurd h (by blk_simp [e] at h'; omega)

/-- Any other column of the point's weights lies sixteen further in the projection's weights. -/
theorem col_hi (c : Dev nD) (t : Fin cfg0.N) (k : Fin 6912) (k' : Fin 6928) (h : ¬k.val < 2048) (hk : k'.val = k.val + 16) :
    col m c t k = fun d => (m ((c : Thread nD τ).loc main_arg3) : FVec Ideal S1024x6928 .f32) (ix2 d k') := by
  have e := idx t
  unfold col; funext d
  blk_simp [iblk, e]; entry_read; pointwise
  split <;> rename_i h'
  · exact absurd (by blk_simp [e] at h'; omega) h
  · blk_ext [e, hk]

/-- The columns held apart are columns 2048 to 2063 of the projection's weights. -/
theorem col_ab (c : Dev nD) (t : Fin cfg0.N) (k : Fin 16) (k' : Fin 6928) (hk : k'.val = k.val + 2048) :
    (fun d => (iblk m c 4 t : FVec Ideal S1024x16 .bf16) (ix2 d k))
      = fun d => (m ((c : Thread nD τ).loc main_arg3) : FVec Ideal S1024x6928 .f32) (ix2 d k') := by
  have e := idx t
  funext d; blk_ext! [iblk, V, e, hk]

/-- The first result: columns 0 to 2047 of the projection. -/
def arr5 (c : Dev nD) : Buf (Elt Ideal) ((c : Thread nD τ).loc main_v7_0) := fun i : S8x2304x2048.Idx =>
  entryAt m c (i 0) (i 1) ⟨0 + (i 2).val, by have h : (i 2).val < 2048 := (i 2).isLt; omega⟩

/-- The second result: columns 2064 to 2831 of the projection. -/
def arr6 (c : Dev nD) : Buf (Elt Ideal) ((c : Thread nD τ).loc main_v7_1) := fun i : S8x2304x768.Idx =>
  entryAt m c (i 0) (i 1) ⟨2064 + (i 2).val, by have h : (i 2).val < 768 := (i 2).isLt; omega⟩

/-- The third result: columns 2832 to 3855 of the projection. -/
def arr7 (c : Dev nD) : Buf (Elt Ideal) ((c : Thread nD τ).loc main_v7_2) := fun i : S8x2304x1024.Idx =>
  entryAt m c (i 0) (i 1) ⟨2832 + (i 2).val, by have h : (i 2).val < 1024 := (i 2).isLt; omega⟩

/-- The fourth result: columns 3856 to 6927 of the projection. -/
def arr8 (c : Dev nD) : Buf (Elt Ideal) ((c : Thread nD τ).loc main_v7_3) := fun i : S8x2304x3072.Idx =>
  entryAt m c (i 0) (i 1) ⟨3856 + (i 2).val, by have h : (i 2).val < 3072 := (i 2).isLt; omega⟩

/-- The fifth result: columns 2048 to 2063 of the projection. -/
def arr9 (c : Dev nD) : Buf (Elt Ideal) ((c : Thread nD τ).loc main_v7_4) := fun i : S8x2304x16.Idx =>
  entryAt m c (i 0) (i 1) ⟨2048 + (i 2).val, by have h : (i 2).val < 16 := (i 2).isLt; omega⟩

/-- A point's row against a column of the projection's weights is an entry of the projection. -/
theorem point_entry (c : Dev nD) (t : Fin cfg0.N) (r : Fin 256) (w : Fin 1024 → EReal) (k : Fin 6928)
    (hw : w = fun d => (m ((c : Thread nD τ).loc main_arg3) : FVec Ideal S1024x6928 .f32) (ix2 d k))
    (b' : Fin 8) (r' : Fin 2304) (k' : Fin 6928) (hb : b'.val = t.val / 9) (hr : r'.val = t.val % 9 * 256 + r.val) (hk : k'.val = k.val) :
    against (rows m c t r) w = entryAt m c b' r' k' := by
  obtain rfl : b' = bOf t := Fin.ext hb
  obtain rfl : r' = rOf t r := Fin.ext hr
  obtain rfl : k' = k := Fin.ext hk
  rw [hw, rows_eq]; rfl

/-- The first result's array after the run. -/
theorem final5 (c : Dev nD) : (dats m 0 c).arrAt 5 cfg0.N = arr5 m c := by
  refine (dats m 0 c).arrAt_eq_of_covers 5 _ (by decide +kernel) fun t hf y => ?_
  have e := idx t
  have hy : (y 2).val < 2048 := (y 2).isLt
  refine (congrFun (after0_5 m c t) y).trans ((out5 m c t y).trans
    (point_entry m c t _ _ ⟨0 + (y 2).val, by omega⟩ (col_lo m c t ⟨0 + (y 2).val, by omega⟩ ⟨0 + (y 2).val, by omega⟩ (by simp; omega) rfl) _ _ _ ?_ ?_ ?_))
  all_goals (blk_simp [e])

/-- The second result's array after the run. -/
theorem final6 (c : Dev nD) : (dats m 0 c).arrAt 6 cfg0.N = arr6 m c := by
  refine (dats m 0 c).arrAt_eq_of_covers 6 _ (by decide +kernel) fun t hf y => ?_
  have e := idx t
  have hy : (y 2).val < 768 := (y 2).isLt
  refine (congrFun (after0_6 m c t) y).trans ((out6 m c t y).trans
    (point_entry m c t _ _ ⟨2064 + (y 2).val, by omega⟩ (col_hi m c t ⟨2048 + (y 2).val, by omega⟩ ⟨2064 + (y 2).val, by omega⟩ (by show ¬ 2048 + (y 2).val < 2048; omega) (by simp; omega)) _ _ _ ?_ ?_ ?_))
  all_goals (blk_simp [e])

/-- The third result's array after the run. -/
theorem final7 (c : Dev nD) : (dats m 0 c).arrAt 7 cfg0.N = arr7 m c := by
  refine (dats m 0 c).arrAt_eq_of_covers 7 _ (by decide +kernel) fun t hf y => ?_
  have e := idx t
  have hy : (y 2).val < 1024 := (y 2).isLt
  refine (congrFun (after0_7 m c t) y).trans ((out7 m c t y).trans
    (point_entry m c t _ _ ⟨2832 + (y 2).val, by omega⟩ (col_hi m c t ⟨2816 + (y 2).val, by omega⟩ ⟨2832 + (y 2).val, by omega⟩ (by show ¬ 2816 + (y 2).val < 2048; omega) (by simp; omega)) _ _ _ ?_ ?_ ?_))
  all_goals (blk_simp [e])

/-- The fourth result's array after the run. -/
theorem final8 (c : Dev nD) : (dats m 0 c).arrAt 8 cfg0.N = arr8 m c := by
  refine (dats m 0 c).arrAt_eq_of_covers 8 _ (by decide +kernel) fun t hf y => ?_
  have e := idx t
  have hy : (y 2).val < 3072 := (y 2).isLt
  refine (congrFun (after0_8 m c t) y).trans ((out8 m c t y).trans
    (point_entry m c t _ _ ⟨3856 + (y 2).val, by omega⟩ (col_hi m c t ⟨3840 + (y 2).val, by omega⟩ ⟨3856 + (y 2).val, by omega⟩ (by show ¬ 3840 + (y 2).val < 2048; omega) (by simp; omega)) _ _ _ ?_ ?_ ?_))
  all_goals (blk_simp [e])

/-- The fifth result's array after the run. -/
theorem final9 (c : Dev nD) : (dats m 0 c).arrAt 9 cfg0.N = arr9 m c := by
  refine (dats m 0 c).arrAt_eq_of_covers 9 _ (by decide +kernel) fun t hf y => ?_
  have e := idx t
  have hy : (y 2).val < 16 := (y 2).isLt
  refine (congrFun (after0_9 m c t) y).trans ((out9 m c t y).trans
    (point_entry m c t _ _ ⟨2048 + (y 2).val, by omega⟩ (col_ab m c t ⟨(y 2).val, hy⟩ ⟨2048 + (y 2).val, by omega⟩ (by simp; omega)) _ _ _ ?_ ?_ ?_))
  all_goals (blk_simp [e])

end Cert.InprojIdeal.Proj
-- ==== Proof.InprojRef.lean ====
/-
  What the plain input projection computes, entry by entry, over the extended reals: the same normed rows against the
  same columns.
-/
module

public import proofs.«01_k».proof.Proof.InprojArray
public import proofs.«01_k».proof.Proof.Gen.InprojRefIdeal.Run
public import proofs.«01_k».proof.Proof.Gen.InprojRefIdeal.Read

@[expose] public section

noncomputable section

open Idealize.ShloMosaic Idealize.ShloMosaic.TcCoe Idealize.SL.Sem

namespace Cert.InprojRefIdeal.Proj

open Cert.InprojRefIdeal Cert.InprojRefIdeal.Gen Cert.InprojRefIdeal.Read
open Cert.InprojIdeal.Proj (entry part)
open Cert.Layer (normed against)

variable (x : FVec Ideal S8x2304x1024 .f32) (mo : FVec Ideal S8x2x6x1024 .f32) (g : FVec Ideal S1024 .f32) (w : FVec Ideal S1024x6928 .f32)

/-- The projection of the context rows. -/
theorem context (b : Fin 8) (r : Fin 256) (k : Fin 6928) :
    val_main_v24 (F := Ideal) x mo g w (ix3 b r k) = entry x mo g w b ⟨r.val, by omega⟩ k := by
  have hp : part ⟨r.val, by omega⟩ = 0 := by unfold part; simp
  unfold entry against normed; rw [hp]
  pointwise [val_main_v24, val_main_v23, val_main_v21, val_main_v15, val_main_v12, val_main_v0, val_main_v11, val_main_v10, val_main_v9, val_main_v7, val_main_v5, val_main_v4, val_main_v3, val_main_cst, val_main_v6, val_main_cst_0, val_main_v8, val_main_cst_1, val_main_v14, val_main_v13, val_main_v20, val_main_v19, val_main_v18, val_main_cst_2, val_main_v17, val_main_v2, val_main_v1, val_main_v22, val_main_v16]

/-- The projection of the latent rows. -/
theorem latent (b : Fin 8) (r : Fin 2048) (k : Fin 6928) :
    val_main_v49 (F := Ideal) x mo g w (ix3 b r k) = entry x mo g w b ⟨256 + r.val, by omega⟩ k := by
  have hp : part ⟨256 + r.val, by omega⟩ = 1 := by unfold part; simp
  unfold entry against normed; rw [hp]
  pointwise [val_main_v49, val_main_v48, val_main_v46, val_main_v40, val_main_v37, val_main_v25, val_main_v36, val_main_v35, val_main_v34, val_main_v32, val_main_v30, val_main_v29, val_main_v28, val_main_cst_3, val_main_v31, val_main_cst_4, val_main_v33, val_main_cst_5, val_main_v39, val_main_v38, val_main_v45, val_main_v44, val_main_v43, val_main_cst_6, val_main_v42, val_main_v27, val_main_v26, val_main_v47, val_main_v41]

/-- The projection of all rows, context rows first. -/
theorem all (i : S8x2304x6928.Idx) : val_main_v50 (F := Ideal) x mo g w i = entry x mo g w (i 0) (i 1) (i 2) := by
  pointwise [val_main_v50]
  split <;> rename_i h
  · exact context x mo g w _ _ _
  · refine (latent x mo g w _ _ _).trans ?_
    congr 1
    exact Fin.ext (by simp; omega)

/-- The first result: columns 0 to 2047. -/
theorem res1 (i : S8x2304x2048.Idx) : val_main_v51 (F := Ideal) x mo g w i
    = entry x mo g w (i 0) (i 1) ⟨0 + (i 2).val, by have h : (i 2).val < 2048 := (i 2).isLt; omega⟩ := by
  pointwise [val_main_v51]
  refine (all x mo g w _).trans ?_
  congr 1

/-- The second result: columns 2064 to 2831. -/
theorem res2 (i : S8x2304x768.Idx) : val_main_v52 (F := Ideal) x mo g w i
    = entry x mo g w (i 0) (i 1) ⟨2064 + (i 2).val, by have h : (i 2).val < 768 := (i 2).isLt; omega⟩ := by
  pointwise [val_main_v52]
  refine (all x mo g w _).trans ?_
  congr 1

/-- The third result: columns 2832 to 3855. -/
theorem res3 (i : S8x2304x1024.Idx) : val_main_v53 (F := Ideal) x mo g w i
    = entry x mo g w (i 0) (i 1) ⟨2832 + (i 2).val, by have h : (i 2).val < 1024 := (i 2).isLt; omega⟩ := by
  pointwise [val_main_v53]
  refine (all x mo g w _).trans ?_
  congr 1

/-- The fourth result: columns 3856 to 6927. -/
theorem res4 (i : S8x2304x3072.Idx) : val_main_v54 (F := Ideal) x mo g w i
    = entry x mo g w (i 0) (i 1) ⟨3856 + (i 2).val, by have h : (i 2).val < 3072 := (i 2).isLt; omega⟩ := by
  pointwise [val_main_v54]
  refine (all x mo g w _).trans ?_
  congr 1

/-- The fifth result: columns 2048 to 2063. -/
theorem res5 (i : S8x2304x16.Idx) : val_main_v55 (F := Ideal) x mo g w i
    = entry x mo g w (i 0) (i 1) ⟨2048 + (i 2).val, by have h : (i 2).val < 16 := (i 2).isLt; omega⟩ := by
  pointwise [val_main_v55]
  refine (all x mo g w _).trans ?_
  congr 1

end Cert.InprojRefIdeal.Proj
-- ==== Proof.InprojClaim.lean ====
/-
  The claims about the input projection: the frames of the three programs, that idealizing changes nothing, and that over
  the extended reals the kernel's five results are the reference's.
-/
module

public import proofs.«01_k».proof.Defs
public import proofs.«01_k».proof.Proof.InprojRef
public import proofs.«01_k».proof.Proof.Gen.Inproj.Frame
public import Idealize.ShloMosaic.Adequacy
public import Idealize.ShloMosaic.Init

@[expose] public section

noncomputable section

open Idealize.ShloMosaic Idealize.ShloMosaic.TcCoe Idealize.SL.Sem

namespace Cert.Proof.Inproj

/-- The kernel as given runs to its end and leaves its arguments as they were. -/
theorem frame : Cert.quiescent_Inproj := fun m ρ _ => Cert.Inproj.Gen.frame m ρ

/-- So does the kernel over the extended reals. -/
theorem frame_ideal : Cert.quiescent_InprojIdeal := fun m ρ _ => Cert.InprojIdeal.Gen.frame m ρ

/-- So does the reference. -/
theorem frame_ref : Cert.quiescent_InprojRefIdeal := fun m ρ _ =>
  (θ_run Cert.InprojRefIdeal.defs _ _).mono (fun r h => ⟨fun c => (h c).2.2.2.2.2, sem_eq_zero_of_no_sems (by decide) r.2⟩)
    (Cert.InprojRefIdeal.Value.run (F := Ideal) m ρ)

/-- No operation is replaced in the idealized kernel. -/
theorem preserves : Cert.preserves_Inproj_InprojIdeal := trivial

open Cert.InprojIdeal.Proj in
/-- Over the extended reals the kernel and the reference compute the same five arrays. -/
theorem algebraic : Cert.algebraic_InprojIdeal_InprojRefIdeal := by
  intro m ρ m' ρ' _ hagree
  refine ⟨arr5 m, arr6 m, arr7 m, arr8 m, arr9 m, ?_, ?_⟩
  · refine (θ_run Cert.InprojIdeal.defs _ _).mono (fun r h c => ?_) (Cert.InprojIdeal.Value.run_blocks (F := Ideal) m ρ)
    obtain ⟨h0, h1, h2, h3, h4, hk⟩ := h c
    exact ⟨h0.trans (final5 m c), h1.trans (final6 m c), h2.trans (final7 m c), h3.trans (final8 m c), h4.trans (final9 m c), hk⟩
  · refine (θ_run Cert.InprojRefIdeal.defs _ _).mono (fun r h c => ?_) (Cert.InprojRefIdeal.Value.run (F := Ideal) m' ρ')
    obtain ⟨h0, h1, h2, h3, h4, hk⟩ := h c
    obtain ⟨a0, a1, a2, a3⟩ := hagree c
    refine ⟨(h0.trans (Cert.InprojRefIdeal.Read.val_main_v51_eq ..)).trans ?_, (h1.trans (Cert.InprojRefIdeal.Read.val_main_v52_eq ..)).trans ?_,
      (h2.trans (Cert.InprojRefIdeal.Read.val_main_v53_eq ..)).trans ?_, (h3.trans (Cert.InprojRefIdeal.Read.val_main_v54_eq ..)).trans ?_,
      (h4.trans (Cert.InprojRefIdeal.Read.val_main_v55_eq ..)).trans ?_, hk⟩
    all_goals rw [a0, a1, a2, a3]; funext i
    · exact Cert.InprojRefIdeal.Proj.res1 _ _ _ _ i
    · exact Cert.InprojRefIdeal.Proj.res2 _ _ _ _ i
    · exact Cert.InprojRefIdeal.Proj.res3 _ _ _ _ i
    · exact Cert.InprojRefIdeal.Proj.res4 _ _ _ _ i
    · exact Cert.InprojRefIdeal.Proj.res5 _ _ _ _ i

end Cert.Proof.Inproj
-- ==== Proof.MergeBlock.lean ====
/-
  What one grid point of the merge kernel computes, over the extended reals. A point takes 256 rows: it sums the three
  branches, each multiplied with its own weights and gated, multiplies the sum with the output weights, adds the gated
  product to the residual rows, and norms and modulates the result.
-/
module

public import proofs.«01_k».proof.Proof.InprojClaim
public import proofs.«01_k».proof.Proof.Gen.MergeIdeal.Frame

@[expose] public section

noncomputable section

open Idealize.ShloMosaic Idealize.ShloMosaic.TcCoe Idealize.SL.Sem

namespace Cert.Layer

/-- The logistic function. -/
def gateOf (z : EReal) : EReal := Ideal.div 1 (1 + Ideal.exp (-z))

/-- Entry `k` of the gated sum of the three branches of a row: each branch against its own weights, times its gate. -/
def mixed (gl : Fin 3072 → EReal) (a b c : Fin 512 → EReal) (w : Fin 3 → Fin 512 → Fin 1024 → EReal) (k : Fin 1024) : EReal :=
  gateOf (gl ⟨k.val, by omega⟩) * (∑ d : Fin 512, a d * w 0 d k)
    + gateOf (gl ⟨1024 + k.val, by omega⟩) * (∑ d : Fin 512, b d * w 1 d k)
    + gateOf (gl ⟨2048 + k.val, by omega⟩) * (∑ d : Fin 512, c d * w 2 d k)

/-- Entry `d` of the residual row `x` with the gated output projection of the row `y` added. -/
def added (x m y : Fin 1024 → EReal) (w : Fin 1024 → Fin 1024 → EReal) (d : Fin 1024) : EReal :=
  x d + m d * ∑ k : Fin 1024, y k * w k d

end Cert.Layer

namespace Cert.MergeIdeal.Sum

open Cert.MergeIdeal Cert.MergeIdeal.Gen
open Cert.Layer (normed mixed added gateOf)

variable (x0 x1 x2 : FVec Ideal S1x256x512 .f32) (x3 : FVec Ideal S1x256x3072 .f32) (x4 : FVec Ideal S1x256x1024 .f32)
  (x5 : FVec Ideal S1x1x6x1024 .f32) (x6 : FVec Ideal S1x1024 .f32) (x7 : FVec Ideal S3x512x1024 .bf16)
  (x8 : FVec Ideal S1024x1024 .bf16) (x9 : FVec Ideal S1024x16 .f32)

/-- Row `r` of a point's new residual rows. -/
def row (r : Fin 256) : Fin 1024 → EReal :=
  added (fun d => x4 (ix3 0 r d)) (fun d => x5 (ix4 0 0 2 d))
    (mixed (fun k => x3 (ix3 0 r k)) (fun d => x0 (ix3 0 r d)) (fun d => x1 (ix3 0 r d)) (fun d => x2 (ix3 0 r d)) (fun i d k => x7 (ix3 i d k)))
    (fun k d => x8 (ix2 k d))

/-- The new residual rows as the body computes them. -/
theorem pay (r : Fin 256) (d : Fin 1024) :
    k0_pay13 (F := Ideal) x0 x1 x2 x3 x4 x5 x6 x7 x8 x9 (ix2 r d) = row x0 x1 x2 x3 x4 x5 x7 x8 r d := by
  unfold k0_pay13 k0_pay11 k0_pay10; unfold_payloads; unfold row added mixed gateOf; pointwise
  simp only [zero_sub]

/-- The first output gets the new residual rows. -/
theorem out10 (r : Fin 256) (d : Fin 1024) :
    out0_10 (F := Ideal) x0 x1 x2 x3 x4 x5 x6 x7 x8 x9 (ix3 0 r d) = row x0 x1 x2 x3 x4 x5 x7 x8 r d := by
  unfold_out out0_10; frame_out
  unfold_payloads; unfold row added mixed gateOf; pointwise
  simp only [zero_sub]

/-- The second output gets them normed and modulated. -/
theorem out11 (r : Fin 256) (d : Fin 1024) :
    out0_11 (F := Ideal) x0 x1 x2 x3 x4 x5 x6 x7 x8 x9 (ix3 0 r d)
      = normed (row x0 x1 x2 x3 x4 x5 x7 x8 r) (fun d => x6 (ix2 0 d)) (fun d => x5 (ix4 0 0 3 d)) (fun d => x5 (ix4 0 0 4 d)) d := by
  unfold out0_11; frame_out
  unfold k0_pay8 k0_pay7 k0_pay12 k0_pay4 normed; pointwise
  simp only [pay]

end Cert.MergeIdeal.Sum
-- ==== Proof.MergeArray.lean ====
/-
  What the merge's first two result arrays hold: for every row of every batch element the new residual row, and the same
  row normed and modulated (the first 256 rows with the context's modulation, the others with the latents'), and that
  after the run the arrays hold this.
-/
module

public import proofs.«01_k».proof.Proof.MergeBlock

@[expose] public section

noncomputable section

open Idealize.ShloMosaic Idealize.ShloMosaic.TcCoe Idealize.SL.Sem

namespace Cert.MergeIdeal.Sum

open Cert.MergeIdeal Cert.MergeIdeal.Gen
open Cert.InprojIdeal.Proj (part)
open Cert.Layer (normed mixed added)

/-- The new residual row `r` of batch element `e`. -/
def resid (a b c : FVec Ideal S8x2304x512 .f32) (gl : FVec Ideal S8x2304x3072 .f32) (x : FVec Ideal S8x2304x1024 .f32)
    (mo : FVec Ideal S8x2x6x1024 .f32) (w : FVec Ideal S3x512x1024 .f32) (wo : FVec Ideal S1024x1024 .f32)
    (e : Fin 8) (r : Fin 2304) : Fin 1024 → EReal :=
  added (fun d => x (ix3 e r d)) (fun d => mo (ix4 e (part r) 2 d))
    (mixed (fun k => gl (ix3 e r k)) (fun d => a (ix3 e r d)) (fun d => b (ix3 e r d)) (fun d => c (ix3 e r d)) (fun i d k => w (ix3 i d k)))
    (fun k d => wo (ix2 k d))

/-- The same row normed and modulated. -/
def after (a b c : FVec Ideal S8x2304x512 .f32) (gl : FVec Ideal S8x2304x3072 .f32) (x : FVec Ideal S8x2304x1024 .f32)
    (mo : FVec Ideal S8x2x6x1024 .f32) (g : FVec Ideal S1024 .f32) (w : FVec Ideal S3x512x1024 .f32) (wo : FVec Ideal S1024x1024 .f32)
    (e : Fin 8) (r : Fin 2304) : Fin 1024 → EReal :=
  normed (resid a b c gl x mo w wo e r) (fun d => g (ix1 d)) (fun d => mo (ix4 e (part r) 3 d)) (fun d => mo (ix4 e (part r) 4 d))

/-- Which blocks a grid point reads and writes: the batch element is the point's number over nine, the run of 256 rows
    its remainder; the first run is the context's. -/
theorem idx : ∀ t : Fin cfg0.N,
    (win0_0.index t (0 : Fin 3) = t.val / 9 ∧ win0_0.index t (1 : Fin 3) = t.val % 9 ∧ win0_0.index t (2 : Fin 3) = 0)
    ∧ (win0_1.index t (0 : Fin 3) = t.val / 9 ∧ win0_1.index t (1 : Fin 3) = t.val % 9 ∧ win0_1.index t (2 : Fin 3) = 0)
    ∧ (win0_2.index t (0 : Fin 3) = t.val / 9 ∧ win0_2.index t (1 : Fin 3) = t.val % 9 ∧ win0_2.index t (2 : Fin 3) = 0)
    ∧ (win0_3.index t (0 : Fin 3) = t.val / 9 ∧ win0_3.index t (1 : Fin 3) = t.val % 9 ∧ win0_3.index t (2 : Fin 3) = 0)
    ∧ (win0_4.index t (0 : Fin 3) = t.val / 9 ∧ win0_4.index t (1 : Fin 3) = t.val % 9 ∧ win0_4.index t (2 : Fin 3) = 0)
    ∧ (win0_5.index t (0 : Fin 4) = t.val / 9 ∧ win0_5.index t (1 : Fin 4) = min (t.val % 9) 1 ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_10.index t (0 : Fin 3) = t.val / 9 ∧ win0_10.index t (1 : Fin 3) = t.val % 9 ∧ win0_10.index t (2 : Fin 3) = 0)
    ∧ (win0_11.index t (0 : Fin 3) = t.val / 9 ∧ win0_11.index t (1 : Fin 3) = t.val % 9 ∧ win0_11.index t (2 : Fin 3) = 0) :=
  (by decide +kernel : ∀ t : Fin grid0.N, _)

variable (m : (ℓ : Loc nD τ sig) → Buf (Elt Ideal) ℓ)

/-- The new residual rows of the launch's arguments. -/
def residAt (c : Dev nD) : Fin 8 → Fin 2304 → Fin 1024 → EReal :=
  resid (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8))

/-- The same rows normed and modulated. -/
def afterAt (c : Dev nD) : Fin 8 → Fin 2304 → Fin 1024 → EReal :=
  after (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The batch element of a point. -/
def bOf (t : Fin cfg0.N) : Fin 8 := ⟨t.val / 9, by have := t.isLt; have e : cfg0.N = 72 := rfl; omega⟩

/-- The row of the array that is a point's row `r`. -/
def rOf (t : Fin cfg0.N) (r : Fin 256) : Fin 2304 := ⟨t.val % 9 * 256 + r.val, by omega⟩

/-- Which modulation a point's rows take. -/
theorem part_rOf (t : Fin cfg0.N) (r : Fin 256) : (part (rOf t r)).val = min (t.val % 9) 1 := by
  unfold part rOf; split <;> rename_i h <;> simp at h ⊢ <;> omega

/-- The point's rows of the first branch. -/
theorem blk0 (c : Dev nD) (t : Fin cfg0.N) (r : Fin 256) (d : Fin 512) : (iblk m c 0 t : FVec Ideal S1x256x512 .f32) (ix3 0 r d)
    = (m ((c : Thread nD τ).loc main_arg0) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the second branch. -/
theorem blk1 (c : Dev nD) (t : Fin cfg0.N) (r : Fin 256) (d : Fin 512) : (iblk m c 1 t : FVec Ideal S1x256x512 .f32) (ix3 0 r d)
    = (m ((c : Thread nD τ).loc main_arg1) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the third branch. -/
theorem blk2 (c : Dev nD) (t : Fin cfg0.N) (r : Fin 256) (d : Fin 512) : (iblk m c 2 t : FVec Ideal S1x256x512 .f32) (ix3 0 r d)
    = (m ((c : Thread nD τ).loc main_arg2) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the gates. -/
theorem blk3 (c : Dev nD) (t : Fin cfg0.N) (r : Fin 256) (d : Fin 3072) : (iblk m c 3 t : FVec Ideal S1x256x3072 .f32) (ix3 0 r d)
    = (m ((c : Thread nD τ).loc main_arg3) : FVec Ideal S8x2304x3072 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the residual rows. -/
theorem blk4 (c : Dev nD) (t : Fin cfg0.N) (r : Fin 256) (d : Fin 1024) : (iblk m c 4 t : FVec Ideal S1x256x1024 .f32) (ix3 0 r d)
    = (m ((c : Thread nD τ).loc main_arg4) : FVec Ideal S8x2304x1024 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The modulation of the point's rows. -/
theorem blk5 (c : Dev nD) (t : Fin cfg0.N) (r : Fin 256) (i : Fin 6) (d : Fin 1024) : (iblk m c 5 t : FVec Ideal S1x1x6x1024 .f32) (ix4 0 0 i d)
    = (m ((c : Thread nD τ).loc main_arg5) : FVec Ideal S8x2x6x1024 .f32) (ix4 (bOf t) (part (rOf t r)) i d) := by
  have e := idx t
  have hp := part_rOf t r
  have hb : (bOf t).val = t.val / 9 := rfl
  have hr : (rOf t r).val = t.val % 9 * 256 + r.val := rfl
  blk_ext! [iblk, V, e, hp, hb, hr]

/-- The norm's gain. -/
theorem blk6 (c : Dev nD) (t : Fin cfg0.N) (d : Fin 1024) : (iblk m c 6 t : FVec Ideal S1x1024 .f32) (ix2 0 d)
    = (m ((c : Thread nD τ).loc main_arg6) : FVec Ideal S1024 .f32) (ix1 d) := by
  have e := idx t
  blk_ext! [iblk, V, e]

/-- The branches' weights. -/
theorem blk7 (c : Dev nD) (t : Fin cfg0.N) (i : Fin 3) (d : Fin 512) (k : Fin 1024) : (iblk m c 7 t : FVec Ideal S3x512x1024 .bf16) (ix3 i d k)
    = (m ((c : Thread nD τ).loc main_arg7) : FVec Ideal S3x512x1024 .f32) (ix3 i d k) := by
  have e := idx t
  blk_ext! [iblk, V, e]

/-- The output weights. -/
theorem blk8 (c : Dev nD) (t : Fin cfg0.N) (k d : Fin 1024) : (iblk m c 8 t : FVec Ideal S1024x1024 .bf16) (ix2 k d)
    = (m ((c : Thread nD τ).loc main_arg8) : FVec Ideal S1024x1024 .f32) (ix2 k d) := by
  have e := idx t
  blk_ext! [iblk, V, e]

/-- A point's new residual rows are rows of the launch's. -/
theorem row_eq (c : Dev nD) (t : Fin cfg0.N) (r : Fin 256) :
    row (iblk m c 0 t) (iblk m c 1 t) (iblk m c 2 t) (iblk m c 3 t) (iblk m c 4 t) (iblk m c 5 t) (iblk m c 7 t) (iblk m c 8 t) r
      = residAt m c (bOf t) (rOf t r) := by
  unfold row residAt resid
  simp only [blk0, blk1, blk2, blk3, blk4, blk5 m c t r, blk7, blk8]

/-- An index of a block is its row and its column. -/
theorem ix_block (j : S1x256x1024.Idx) : j = ix3 (n0 := 1) (n1 := 256) (n2 := 1024) 0 (j 1) (j 2) := by
  funext k
  match k with
  | 0 => exact Subsingleton.elim (α := Fin 1) _ _
  | 1 => rfl
  | 2 => rfl

/-- What a point writes to the first output. -/
theorem point10 (c : Dev nD) (t : Fin cfg0.N) (r : Fin 256) (d : Fin 1024) (b' : Fin 8) (r' : Fin 2304) (d' : Fin 1024)
    (hb : b'.val = t.val / 9) (hr : r'.val = t.val % 9 * 256 + r.val) (hd : d'.val = d.val) :
    out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix3 0 r d) = residAt m c b' r' d' := by
  obtain rfl : b' = bOf t := Fin.ext hb
  obtain rfl : r' = rOf t r := Fin.ext hr
  obtain rfl : d' = d := Fin.ext hd
  rw [← row_eq]
  exact out10 ..

/-- What a point writes to the second output. -/
theorem point11 (c : Dev nD) (t : Fin cfg0.N) (r : Fin 256) (d : Fin 1024) (b' : Fin 8) (r' : Fin 2304) (d' : Fin 1024)
    (hb : b'.val = t.val / 9) (hr : r'.val = t.val % 9 * 256 + r.val) (hd : d'.val = d.val) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (ix3 0 r d) = afterAt m c b' r' d' := by
  obtain rfl : b' = bOf t := Fin.ext hb
  obtain rfl : r' = rOf t r := Fin.ext hr
  obtain rfl : d' = d := Fin.ext hd
  refine (out11 ..).trans ?_
  simp only [row_eq, blk5 m c t r, blk6]
  rfl

/-- The first result: the new residual rows. -/
def arr10 (c : Dev nD) : Buf (Elt Ideal) ((c : Thread nD τ).loc main_v3_0) := fun i : S8x2304x1024.Idx => residAt m c (i 0) (i 1) (i 2)

/-- The second result: the same rows normed and modulated. -/
def arr11 (c : Dev nD) : Buf (Elt Ideal) ((c : Thread nD τ).loc main_v3_1) := fun i : S8x2304x1024.Idx => afterAt m c (i 0) (i 1) (i 2)

/-- The first result's array after the run. -/
theorem final10 (c : Dev nD) : (dats m 0 c).arrAt 10 cfg0.N = arr10 m c := by
  refine (dats m 0 c).arrAt_eq_of_covers 10 _ (by decide +kernel) fun t hf y => ?_
  have e := idx t
  refine (congrFun (after0_10 m c t) y).trans ((congrArg _ (ix_block y)).trans (point10 m c t (y 1) (y 2) _ _ _ ?_ ?_ ?_))
  all_goals (blk_simp [e])

/-- The second result's array after the run. -/
theorem final11 (c : Dev nD) : (dats m 0 c).arrAt 11 cfg0.N = arr11 m c := by
  refine (dats m 0 c).arrAt_eq_of_covers 11 _ (by decide +kernel) fun t hf y => ?_
  have e := idx t
  refine (congrFun (after0_11 m c t) y).trans ((congrArg _ (ix_block y)).trans (point11 m c t (y 1) (y 2) _ _ _ ?_ ?_ ?_))
  all_goals (blk_simp [e])

/-- After the run the first two results hold these arrays and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v3_0) = arr10 m c
      ∧ r.2.mem ((c : Thread nD τ).loc main_v3_1) = arr11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    have kept : ∀ w : Fin cfg0.W, (dats m 0 c).arrAt w cfg0.N = (dats m 0 c).A w →
        r.2.mem ((c : Thread nD τ).loc (Pipeline.arrRef spec0 w)) = V m c (Pipeline.arrRef spec0 w) :=
      fun w hw => ((h c).1 w).trans (hw.trans (A_eq m c w))
    have rest : ∀ b ∈ Pipeline.restRefs sig (cfgs 0).spec, r.2.mem ((c : Thread nD τ).loc b) = V m c b := (h c).2
    exact ⟨((h c).1 10).trans (final10 m c), ((h c).1 11).trans (final11 m c),
      (kept 0 ((dats m 0 c).arrAt_in 0 rfl _)).trans (V_main_arg0 m c),
      (kept 1 ((dats m 0 c).arrAt_in 1 rfl _)).trans (V_main_arg1 m c),
      (kept 2 ((dats m 0 c).arrAt_in 2 rfl _)).trans (V_main_arg2 m c),
      (kept 3 ((dats m 0 c).arrAt_in 3 rfl _)).trans (V_main_arg3 m c),
      (kept 4 ((dats m 0 c).arrAt_in 4 rfl _)).trans (V_main_arg4 m c),
      (kept 5 ((dats m 0 c).arrAt_in 5 rfl _)).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c),
      (kept 9 ((dats m 0 c).arrAt_in 9 rfl _)).trans (V_main_arg9 m c)⟩) (run_main m ρ)

end Cert.MergeIdeal.Sum
-- ==== Proof.MergeRef.lean ====
/-
  What the plain merge computes, entry by entry, over the extended reals: the same residual rows, and the same rows normed
  and modulated.
-/
module

public import proofs.«01_k».proof.Proof.MergeArray
public import proofs.«01_k».proof.Proof.Gen.MergeRefIdeal.Run
public import proofs.«01_k».proof.Proof.Gen.MergeRefIdeal.Read

@[expose] public section

noncomputable section

open Idealize.ShloMosaic Idealize.ShloMosaic.TcCoe Idealize.SL.Sem

namespace Cert.MergeRefIdeal.Sum

open Cert.MergeRefIdeal Cert.MergeRefIdeal.Gen Cert.MergeRefIdeal.Read
open Cert.MergeIdeal.Sum (resid after)
open Cert.InprojIdeal.Proj (part)
open Cert.Layer (normed mixed added gateOf)

variable (x0 x1 x2 : FVec Ideal S8x2304x512 .f32) (x3 : FVec Ideal S8x2304x3072 .f32) (x4 : FVec Ideal S8x2304x1024 .f32)
  (x5 : FVec Ideal S8x2x6x1024 .f32) (x6 : FVec Ideal S1024 .f32) (x7 : FVec Ideal S3x512x1024 .f32) (x8 : FVec Ideal S1024x1024 .f32)

/-- The residual rows of the context. -/
theorem context_resid (b : Fin 8) (r : Fin 256) (d : Fin 1024) :
    val_main_v34 (F := Ideal) x0 x1 x2 x3 x4 x5 x7 x8 (ix3 b r d) = resid x0 x1 x2 x3 x4 x5 x7 x8 b ⟨r.val, by omega⟩ d := by
  have hp : part ⟨r.val, by omega⟩ = 0 := by unfold part; simp
  unfold resid added mixed gateOf; rw [hp]
  pointwise [val_main_v34, val_main_v29, val_main_v33, val_main_v32, val_main_v30, val_main_v1, val_main_v0, val_main_v31, val_main_v28, val_main_v22, val_main_v16, val_main_v9, val_main_v8, val_main_v7, val_main_cst_0, val_main_v6, val_main_v5, val_main_cst, val_main_v4, val_main_v3, val_main_v2, val_main_v15, val_main_v12, val_main_v14, val_main_v13, val_main_v21, val_main_v10, val_main_v20, val_main_v17, val_main_v19, val_main_v18, val_main_v27, val_main_v11, val_main_v26, val_main_v23, val_main_v25, val_main_v24]

/-- The residual rows of the latents. -/
theorem latent_resid (b : Fin 8) (r : Fin 2048) (d : Fin 1024) :
    val_main_v91 (F := Ideal) x0 x1 x2 x3 x4 x5 x7 x8 (ix3 b r d) = resid x0 x1 x2 x3 x4 x5 x7 x8 b ⟨256 + r.val, by omega⟩ d := by
  have hp : part ⟨256 + r.val, by omega⟩ = 1 := by unfold part; simp
  unfold resid added mixed gateOf; rw [hp]
  pointwise [val_main_v91, val_main_v86, val_main_v90, val_main_v89, val_main_v87, val_main_v58, val_main_v57, val_main_v88, val_main_v85, val_main_v79, val_main_v73, val_main_v66, val_main_v65, val_main_v64, val_main_cst_6, val_main_v63, val_main_v62, val_main_cst_5, val_main_v61, val_main_v60, val_main_v59, val_main_v72, val_main_v69, val_main_v71, val_main_v70, val_main_v78, val_main_v67, val_main_v77, val_main_v74, val_main_v76, val_main_v75, val_main_v84, val_main_v68, val_main_v83, val_main_v80, val_main_v82, val_main_v81]

/-- The context's rows normed and modulated. -/
theorem context_after (b : Fin 8) (r : Fin 256) (d : Fin 1024) :
    val_main_v56 (F := Ideal) x0 x1 x2 x3 x4 x5 x6 x7 x8 (ix3 b r d) = after x0 x1 x2 x3 x4 x5 x6 x7 x8 b ⟨r.val, by omega⟩ d := by
  have hp : part ⟨r.val, by omega⟩ = 0 := by unfold part; simp
  unfold after normed; rw [hp]
  pointwise [val_main_v56, val_main_v55, val_main_v53, val_main_v47, val_main_v44, val_main_v43, val_main_v42, val_main_v41, val_main_v39, val_main_v37, val_main_v36, val_main_v35, val_main_cst_1, val_main_v38, val_main_cst_2, val_main_v40, val_main_cst_3, val_main_v46, val_main_v45, val_main_v52, val_main_v51, val_main_v50, val_main_cst_4, val_main_v49, val_main_v1, val_main_v0, val_main_v54, val_main_v48]
  simp only [context_resid]

/-- The latents' rows normed and modulated. -/
theorem latent_after (b : Fin 8) (r : Fin 2048) (d : Fin 1024) :
    val_main_v113 (F := Ideal) x0 x1 x2 x3 x4 x5 x6 x7 x8 (ix3 b r d) = after x0 x1 x2 x3 x4 x5 x6 x7 x8 b ⟨256 + r.val, by omega⟩ d := by
  have hp : part ⟨256 + r.val, by omega⟩ = 1 := by unfold part; simp
  unfold after normed; rw [hp]
  pointwise [val_main_v113, val_main_v112, val_main_v110, val_main_v104, val_main_v101, val_main_v100, val_main_v99, val_main_v98, val_main_v96, val_main_v94, val_main_v93, val_main_v92, val_main_cst_7, val_main_v95, val_main_cst_8, val_main_v97, val_main_cst_9, val_main_v103, val_main_v102, val_main_v109, val_main_v108, val_main_v107, val_main_cst_10, val_main_v106, val_main_v58, val_main_v57, val_main_v111, val_main_v105]
  simp only [latent_resid]

/-- The first result: the residual rows, context rows first. -/
theorem res1 (i : S8x2304x1024.Idx) : val_main_v114 (F := Ideal) x0 x1 x2 x3 x4 x5 x7 x8 i = resid x0 x1 x2 x3 x4 x5 x7 x8 (i 0) (i 1) (i 2) := by
  pointwise [val_main_v114]
  split <;> rename_i h
  · exact context_resid x0 x1 x2 x3 x4 x5 x7 x8 _ _ _
  · refine (latent_resid x0 x1 x2 x3 x4 x5 x7 x8 _ _ _).trans ?_
    congr 1
    exact Fin.ext (by simp; omega)

/-- The second result: the rows normed and modulated, context rows first. -/
theorem res2 (i : S8x2304x1024.Idx) : val_main_v115 (F := Ideal) x0 x1 x2 x3 x4 x5 x6 x7 x8 i = after x0 x1 x2 x3 x4 x5 x6 x7 x8 (i 0) (i 1) (i 2) := by
  pointwise [val_main_v115]
  split <;> rename_i h
  · exact context_after x0 x1 x2 x3 x4 x5 x6 x7 x8 _ _ _
  · refine (latent_after x0 x1 x2 x3 x4 x5 x6 x7 x8 _ _ _).trans ?_
    congr 1
    exact Fin.ext (by simp; omega)

end Cert.MergeRefIdeal.Sum
-- ==== Proof.MergeClaim.lean ====
/-
  The claims about the merge of the branches: the frames of the three programs, that idealizing changes nothing, and that
  over the extended reals the kernel's first two results are the reference's.
-/
module

public import proofs.«01_k».proof.Defs
public import proofs.«01_k».proof.Proof.MergeRef
public import proofs.«01_k».proof.Proof.Gen.Merge.Frame
public import Idealize.ShloMosaic.Adequacy
public import Idealize.ShloMosaic.Init

@[expose] public section

noncomputable section

open Idealize.ShloMosaic Idealize.ShloMosaic.TcCoe Idealize.SL.Sem

namespace Cert.Proof.Merge

/-- The kernel as given runs to its end and leaves its arguments as they were. -/
theorem frame : Cert.quiescent_Merge := fun m ρ _ => Cert.Merge.Gen.frame m ρ

/-- So does the kernel over the extended reals. -/
theorem frame_ideal : Cert.quiescent_MergeIdeal := fun m ρ _ => Cert.MergeIdeal.Gen.frame m ρ

/-- So does the reference. -/
theorem frame_ref : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- No operation is replaced in the idealized kernel. -/
theorem preserves : Cert.preserves_Merge_MergeIdeal := trivial

open Cert.MergeIdeal.Sum in
/-- Over the extended reals the kernel and the reference compute the same two arrays. -/
theorem algebraic : Cert.algebraic_MergeIdeal_MergeRefIdeal := by
  intro m ρ m' ρ' _ hagree
  refine ⟨arr10 m, arr11 m, run m ρ, ?_⟩
  refine (θ_run Cert.MergeRefIdeal.defs _ _).mono (fun r h c => ?_) (Cert.MergeRefIdeal.Value.run (F := Ideal) m' ρ')
  obtain ⟨h0, h1, hk⟩ := h c
  obtain ⟨a0, a1, a2, a3, a4, a5, a6, a7, a8, a9⟩ := hagree c
  refine ⟨(h0.trans (Cert.MergeRefIdeal.Read.val_main_v114_eq ..)).trans ?_, (h1.trans (Cert.MergeRefIdeal.Read.val_main_v115_eq ..)).trans ?_, hk⟩
  all_goals simp only [a0, a1, a2, a3, a4, a5, a6, a7, a8]; funext i
  · exact Cert.MergeRefIdeal.Sum.res1 _ _ _ _ _ _ _ _ i
  · exact Cert.MergeRefIdeal.Sum.res2 _ _ _ _ _ _ _ _ _ i

end Cert.Proof.Merge
-- ==== Proof.ScatterBlock.lean ====
/-
  What one grid point of the scatter kernel computes, over the extended reals. The grid runs over the eight sequences and,
  inside a sequence, over the sixteen experts. The output block is cleared at the first expert; every expert adds, to every
  row of nine runs of 256, the row it computed for that token times the token's weight; at the last expert the block
  becomes the residual row plus the gate times the sum.
-/
module

public import proofs.«01_k».proof.Proof.MergeClaim
public import proofs.«01_k».proof.Proof.Gen.ScatterIdeal.Value
public import Idealize.ShloMosaic.Lib.Pipeline.ValueKit.Point
public import Idealize.ShloMosaic.Lib.Pipeline.ReadBack

@[expose] public section

noncomputable section

open Idealize.ShloMosaic Idealize.ShloMosaic.TcCoe Idealize.SL.Sem

namespace Cert.ScatterIdeal.Place

open Cert.ScatterIdeal Cert.ScatterIdeal.Gen

/-- The row that position `p` names among `n` rows, times the weight `g`, at column `d`: zero if `p` is none of them. -/
def share {n : ℕ} (y : FVec Ideal ⟨3, ![1, n, 1024]⟩ .bf16) (p : BitVec 32) (g : EReal) (d : Fin 1024) : EReal :=
  g * ∑ k : Fin n, (if p = BitVec.ofNat 32 k then 1 else 0) * y (ix3 0 k d)

/-- A sum over the experts that keeps the entry of one of them is that entry. -/
theorem lane (e : Fin 16) (v : Fin 16 → EReal) :
    ∑ x : Fin 16, Scalar.select (IntOp.cmpi .eq (BitVec.ofNat 32 x) (BitVec.ofNat 32 e)) (v x) 0 = v e := by
  rw [Finset.sum_eq_single e]
  · simp [Scalar.select, IntOp.cmpi]
  · intro b _ hb
    have : ¬ (BitVec.ofNat 32 b = BitVec.ofNat 32 e) := by
      intro h; apply hb; have := congrArg BitVec.toNat h; simp at this; omega
    exact if_neg (fun h => this (IntOp.cmpi_eq.mp h))
  · simp

/-- Two integers are equal when their real values are. -/
theorem same_pos (p q : BitVec 32) : ((FloatOps.sitofp FTy.f32 p : Ideal .f32) = FloatOps.sitofp FTy.f32 q) ↔ p = q := by
  constructor
  · intro h
    have : ((p.toInt : ℝ) : EReal) = ((q.toInt : ℝ) : EReal) := h
    exact BitVec.eq_of_toInt_eq (by exact_mod_cast this)
  · rintro rfl; rfl

/-- What the first run of 256 rows, the context rows, stores: its rows so far and the expert's share. -/
theorem tile0 (i : grid0.Coords) (p : Vec Ideal S1x256x16 .i32) (g : Vec Ideal S1x256x16 .f32) (y : Vec Ideal S1x32x1024 .bf16)
    (o : Vec Ideal S1x256x1024 .f32) (x : S1x256x1024.Idx) :
    k0_pay6 (F := Ideal) (k0_pay4 (F := Ideal) o) (k0_pay5 (F := Ideal) i p g y) x
      = o x + share (n := 32) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the second run of 256 rows stores: its rows so far and the expert's share. -/
theorem tile1 (i : grid0.Coords) (p : Vec Ideal S1x256x16 .i32) (g : Vec Ideal S1x256x16 .f32) (y : Vec Ideal S1x256x1024 .bf16)
    (o : Vec Ideal S1x256x1024 .f32) (x : S1x256x1024.Idx) :
    k0_pay8 (F := Ideal) (k0_pay7 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the third run of 256 rows stores: its rows so far and the expert's share. -/
theorem tile2 (i : grid0.Coords) (p : Vec Ideal S1x256x16 .i32) (g : Vec Ideal S1x256x16 .f32) (y : Vec Ideal S1x256x1024 .bf16)
    (o : Vec Ideal S1x256x1024 .f32) (x : S1x256x1024.Idx) :
    k0_pay10 (F := Ideal) (k0_pay9 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the fourth run of 256 rows stores: its rows so far and the expert's share. -/
theorem tile3 (i : grid0.Coords) (p : Vec Ideal S1x256x16 .i32) (g : Vec Ideal S1x256x16 .f32) (y : Vec Ideal S1x256x1024 .bf16)
    (o : Vec Ideal S1x256x1024 .f32) (x : S1x256x1024.Idx) :
    k0_pay12 (F := Ideal) (k0_pay11 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the fifth run of 256 rows stores: its rows so far and the expert's share. -/
theorem tile4 (i : grid0.Coords) (p : Vec Ideal S1x256x16 .i32) (g : Vec Ideal S1x256x16 .f32) (y : Vec Ideal S1x256x1024 .bf16)
    (o : Vec Ideal S1x256x1024 .f32) (x : S1x256x1024.Idx) :
    k0_pay14 (F := Ideal) (k0_pay13 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the sixth run of 256 rows stores: its rows so far and the expert's share. -/
theorem tile5 (i : grid0.Coords) (p : Vec Ideal S1x256x16 .i32) (g : Vec Ideal S1x256x16 .f32) (y : Vec Ideal S1x256x1024 .bf16)
    (o : Vec Ideal S1x256x1024 .f32) (x : S1x256x1024.Idx) :
    k0_pay16 (F := Ideal) (k0_pay15 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the seventh run of 256 rows stores: its rows so far and the expert's share. -/
theorem tile6 (i : grid0.Coords) (p : Vec Ideal S1x256x16 .i32) (g : Vec Ideal S1x256x16 .f32) (y : Vec Ideal S1x256x1024 .bf16)
    (o : Vec Ideal S1x256x1024 .f32) (x : S1x256x1024.Idx) :
    k0_pay18 (F := Ideal) (k0_pay17 (F := Ideal) (BitVec.ofNat 32 (i 1).val) (iota Kind.tc S256x16 32 [1] iota_S256x16_d1_w32) p g y o) x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the eighth run of 256 rows stores: its rows so far and the expert's share. -/
theorem tile7 (i : grid0.Coords) (p : Vec Ideal S1x256x16 .i32) (g : Vec Ideal S1x256x16 .f32) (y : Vec Ideal S1x256x1024 .bf16)
    (o : Vec Ideal S1x256x1024 .f32) (x : S1x256x1024.Idx) :
    k0_pay19 (F := Ideal) (BitVec.ofNat 32 (i 1).val) (iota Kind.tc S256x16 32 [1] iota_S256x16_d1_w32) p g y o x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- What the ninth run of 256 rows stores: its rows so far and the expert's share. -/
theorem tile8 (i : grid0.Coords) (p : Vec Ideal S1x256x16 .i32) (g : Vec Ideal S1x256x16 .f32) (y : Vec Ideal S1x256x1024 .bf16)
    (o : Vec Ideal S1x256x1024 .f32) (x : S1x256x1024.Idx) :
    k0_pay20 (F := Ideal) (BitVec.ofNat 32 (i 1).val) (iota Kind.tc S256x16 32 [1] iota_S256x16_d1_w32) p g y o x
      = o x + share (n := 256) y (p (ix3 0 (x 1) (i 1))) (g (ix3 0 (x 1) (i 1))) (x 2) := by
  obtain ⟨r, d, rfl⟩ : ∃ (r : Fin 256) (d : Fin 1024), x = ix3 0 r d := ⟨x 1, x 2, by blk_ext⟩
  unfold_payloads; unfold share; pointwise
  simp only [lane (i 1), same_pos]
  congr!

/-- The nine runs of rows an expert stores, the last of them first: `ys` and `yc` the rows it computed, `p` and `g` the
tokens' positions and weights, `o` the sums so far. -/
def tiles (i : grid0.Coords) (ys : Vec Ideal S1x256x1024 .bf16) (yc : Vec Ideal S1x32x1024 .bf16) (p : Vec Ideal S1x2304x16 .i32)
    (g : Vec Ideal S1x2304x16 .f32) (o : Vec Ideal S1x2304x1024 .f32) : List (View.Piece (Elt Ideal) S1x2304x1024 .f32) :=
  [⟨Rect.unit ![0, 2048, 0] ![1, 256, 1024] inb_S1x2304x1024_S1x256x1024_0_2048_0,
    k0_pay20 (F := Ideal) (BitVec.ofNat 32 (i 1).val) (iota Kind.tc S256x16 32 [1] iota_S256x16_d1_w32)
      (View.ld p (Rect.unit ![0, 2048, 0] ![1, 256, 16] inb_S1x2304x16_S1x256x16_0_2048_0))
      (View.ld g (Rect.unit ![0, 2048, 0] ![1, 256, 16] inb_S1x2304x16_S1x256x16_0_2048_0)) ys
      (View.ld o (Rect.unit ![0, 2048, 0] ![1, 256, 1024] inb_S1x2304x1024_S1x256x1024_0_2048_0))⟩,
  ⟨Rect.unit ![0, 1792, 0] ![1, 256, 1024] inb_S1x2304x1024_S1x256x1024_0_1792_0,
    k0_pay19 (F := Ideal) (BitVec.ofNat 32 (i 1).val) (iota Kind.tc S256x16 32 [1] iota_S256x16_d1_w32)
      (View.ld p (Rect.unit ![0, 1792, 0] ![1, 256, 16] inb_S1x2304x16_S1x256x16_0_1792_0))
      (View.ld g (Rect.unit ![0, 1792, 0] ![1, 256, 16] inb_S1x2304x16_S1x256x16_0_1792_0)) ys
      (View.ld o (Rect.unit ![0, 1792, 0] ![1, 256, 1024] inb_S1x2304x1024_S1x256x1024_0_1792_0))⟩,
  ⟨Rect.unit ![0, 1536, 0] ![1, 256, 1024] inb_S1x2304x1024_S1x256x1024_0_1536_0,
    k0_pay18 (F := Ideal) (k0_pay17 (F := Ideal) (BitVec.ofNat 32 (i 1).val) (iota Kind.tc S256x16 32 [1] iota_S256x16_d1_w32)
      (View.ld p (Rect.unit ![0, 1536, 0] ![1, 256, 16] inb_S1x2304x16_S1x256x16_0_1536_0))
      (View.ld g (Rect.unit ![0, 1536, 0] ![1, 256, 16] inb_S1x2304x16_S1x256x16_0_1536_0)) ys
      (View.ld o (Rect.unit ![0, 1536, 0] ![1, 256, 1024] inb_S1x2304x1024_S1x256x1024_0_1536_0)))⟩,
  ⟨Rect.unit ![0, 1280, 0] ![1, 256, 1024] inb_S1x2304x1024_S1x256x1024_0_1280_0,
    k0_pay16 (F := Ideal) (k0_pay15 (F := Ideal) (BitVec.ofNat 32 (i 1).val) (iota Kind.tc S256x16 32 [1] iota_S256x16_d1_w32)
      (View.ld p (Rect.unit ![0, 1280, 0] ![1, 256, 16] inb_S1x2304x16_S1x256x16_0_1280_0))
      (View.ld g (Rect.unit ![0, 1280, 0] ![1, 256, 16] inb_S1x2304x16_S1x256x16_0_1280_0)) ys
      (View.ld o (Rect.unit ![0, 1280, 0] ![1, 256, 1024] inb_S1x2304x1024_S1x256x1024_0_1280_0)))⟩,
  ⟨Rect.unit ![0, 1024, 0] ![1, 256, 1024] inb_S1x2304x1024_S1x256x1024_0_1024_0,
    k0_pay14 (F := Ideal) (k0_pay13 (F := Ideal) (BitVec.ofNat 32 (i 1).val) (iota Kind.tc S256x16 32 [1] iota_S256x16_d1_w32)
      (View.ld p (Rect.unit ![0, 1024, 0] ![1, 256, 16] inb_S1x2304x16_S1x256x16_0_1024_0))
      (View.ld g (Rect.unit ![0, 1024, 0] ![1, 256, 16] inb_S1x2304x16_S1x256x16_0_1024_0)) ys
      (View.ld o (Rect.unit ![0, 1024, 0] ![1, 256, 1024] inb_S1x2304x1024_S1x256x1024_0_1024_0)))⟩,
  ⟨Rect.unit ![0, 768, 0] ![1, 256, 1024] inb_S1x2304x1024_S1x256x1024_0_768_0,
    k0_pay12 (F := Ideal) (k0_pay11 (F := Ideal) (BitVec.ofNat 32 (i 1).val) (iota Kind.tc S256x16 32 [1] iota_S256x16_d1_w32)
      (View.ld p (Rect.unit ![0, 768, 0] ![1, 256, 16] inb_S1x2304x16_S1x256x16_0_768_0))
      (View.ld g (Rect.unit ![0, 768, 0] ![1, 256, 16] inb_S1x2304x16_S1x256x16_0_768_0)) ys
      (View.ld o (Rect.unit ![0, 768, 0] ![1, 256, 1024] inb_S1x2304x1024_S1x256x1024_0_768_0)))⟩,
  ⟨Rect.unit ![0, 512, 0] ![1, 256, 1024] inb_S1x2304x1024_S1x256x1024_0_512_0,
    k0_pay10 (F := Ideal) (k0_pay9 (F := Ideal) (BitVec.ofNat 32 (i 1).val) (iota Kind.tc S256x16 32 [1] iota_S256x16_d1_w32)
      (View.ld p (Rect.unit ![0, 512, 0] ![1, 256, 16] inb_S1x2304x16_S1x256x16_0_512_0))
      (View.ld g (Rect.unit ![0, 512, 0] ![1, 256, 16] inb_S1x2304x16_S1x256x16_0_512_0)) ys
      (View.ld o (Rect.unit ![0, 512, 0] ![1, 256, 1024] inb_S1x2304x1024_S1x256x1024_0_512_0)))⟩,
  ⟨Rect.unit ![0, 256, 0] ![1, 256, 1024] inb_S1x2304x1024_S1x256x1024_0_256_0,
    k0_pay8 (F := Ideal) (k0_pay7 (F := Ideal) (BitVec.ofNat 32 (i 1).val) (iota Kind.tc S256x16 32 [1] iota_S256x16_d1_w32)
      (View.ld p (Rect.unit ![0, 256, 0] ![1, 256, 16] inb_S1x2304x16_S1x256x16_0_256_0))
      (View.ld g (Rect.unit ![0, 256, 0] ![1, 256, 16] inb_S1x2304x16_S1x256x16_0_256_0)) ys
      (View.ld o (Rect.unit ![0, 256, 0] ![1, 256, 1024] inb_S1x2304x1024_S1x256x1024_0_256_0)))⟩,
  ⟨Rect.unit ![0, 0, 0] ![1, 256, 1024] inb_S1x2304x1024_S1x256x1024_0_0_0,
    k0_pay6 (F := Ideal) (k0_pay4 (F := Ideal) (View.ld o (Rect.unit ![0, 0, 0] ![1, 256, 1024] inb_S1x2304x1024_S1x256x1024_0_0_0))) (k0_pay5 (F := Ideal) i (View.ld p (Rect.unit ![0, 0, 0] ![1, 256, 16] inb_S1x2304x16_S1x256x16_0_0_0)) (View.ld g (Rect.unit ![0, 0, 0] ![1, 256, 16] inb_S1x2304x16_S1x256x16_0_0_0)) yc)⟩]

/-- What an expert adds to one entry of the output block: to a context row from its context rows, to a latent row from its
latent rows. -/
def added (e : Fin 16) (ys : Vec Ideal S1x256x1024 .bf16) (yc : Vec Ideal S1x32x1024 .bf16) (p : Vec Ideal S1x2304x16 .i32)
    (g : Vec Ideal S1x2304x16 .f32) (r : Fin 2304) (d : Fin 1024) : EReal :=
  if r.val < 256 then share (n := 32) yc (p (ix3 0 r e)) (g (ix3 0 r e)) d
  else share (n := 256) ys (p (ix3 0 r e)) (g (ix3 0 r e)) d

/-- The nine runs hold the sums so far and what the expert adds. -/
theorem tiles_at (i : grid0.Coords) (ys : Vec Ideal S1x256x1024 .bf16) (yc : Vec Ideal S1x32x1024 .bf16) (p : Vec Ideal S1x2304x16 .i32)
    (g : Vec Ideal S1x2304x16 .f32) (o : Vec Ideal S1x2304x1024 .f32) (j : S1x2304x1024.Idx) :
    View.canon (tiles i ys yc p g o) j = o j + added (i 1) ys yc p g (j 1) (j 2) := by
  unfold tiles
  canon_tiles x h
  · rw [tile8]; unfold added; rw [if_neg (by have := (x 1).isLt; simp at this; omega)]
    blk_point <;> (pointwise; blk_point)
  · rw [tile7]; unfold added; rw [if_neg (by have := (x 1).isLt; simp at this; omega)]
    blk_point <;> (pointwise; blk_point)
  · rw [tile6]; unfold added; rw [if_neg (by have := (x 1).isLt; simp at this; omega)]
    blk_point <;> (pointwise; blk_point)
  · rw [tile5]; unfold added; rw [if_neg (by have := (x 1).isLt; simp at this; omega)]
    blk_point <;> (pointwise; blk_point)
  · rw [tile4]; unfold added; rw [if_neg (by have := (x 1).isLt; simp at this; omega)]
    blk_point <;> (pointwise; blk_point)
  · rw [tile3]; unfold added; rw [if_neg (by have := (x 1).isLt; simp at this; omega)]
    blk_point <;> (pointwise; blk_point)
  · rw [tile2]; unfold added; rw [if_neg (by have := (x 1).isLt; simp at this; omega)]
    blk_point <;> (pointwise; blk_point)
  · rw [tile1]; unfold added; rw [if_neg (by have := (x 1).isLt; simp at this; omega)]
    blk_point <;> (pointwise; blk_point)
  · rw [tile0]; unfold added; rw [if_pos (by have := (x 1).isLt; simp at this; omega)]
    blk_point <;> (pointwise; blk_point)

/-- The residual row plus the gate times the sum: the gate's first row for a context row, its second for a latent row. -/
def gated (x : Vec Ideal S1x2304x1024 .f32) (gate : Vec Ideal S1x2x1024 .f32) (s : EReal) (r : Fin 2304) (d : Fin 1024) : EReal :=
  x (ix3 0 r d) + gate (ix3 0 (if r.val < 256 then 0 else 1) d) * s

/-- What is written for the context rows at the last expert. -/
theorem contextRows (x : Vec Ideal S1x256x1024 .f32) (gate : Vec Ideal S1x1x1024 .f32) (o : Vec Ideal S1x256x1024 .f32)
    (y : S1x256x1024.Idx) : k0_pay1 (F := Ideal) x gate o y = x y + gate (ix3 0 0 (y 2)) * o y := by
  obtain ⟨r, d, rfl⟩ : ∃ (r : Fin 256) (d : Fin 1024), y = ix3 0 r d := ⟨y 1, y 2, by blk_ext⟩
  pointwise [k0_pay1]

/-- What is written for the latent rows at the last expert. -/
theorem latentRows (x : Vec Ideal S1x2048x1024 .f32) (gate : Vec Ideal S1x1x1024 .f32) (o : Vec Ideal S1x2048x1024 .f32)
    (y : S1x2048x1024.Idx) : k0_pay2 (F := Ideal) x gate o y = x y + gate (ix3 0 0 (y 2)) * o y := by
  obtain ⟨r, d, rfl⟩ : ∃ (r : Fin 2048) (d : Fin 1024), y = ix3 0 r d := ⟨y 1, y 2, by blk_ext⟩
  pointwise [k0_pay2]

/-- The two last stores, of the latent rows and of the context rows, leave the residual row plus the gate times the sum. -/
theorem closing (x : Vec Ideal S1x2304x1024 .f32) (gate : Vec Ideal S1x2x1024 .f32) (o : Vec Ideal S1x2304x1024 .f32)
    (o1 : Vec Ideal S1x256x1024 .f32) (o2 : Vec Ideal S1x2048x1024 .f32)
    (e1 : ∀ y, o1 y = View.ld o (Rect.unit ![0, 0, 0] ![1, 256, 1024] inb_S1x2304x1024_S1x256x1024_0_0_0) y)
    (e2 : ∀ y, o2 y = View.ld o (Rect.unit ![0, 256, 0] ![1, 2048, 1024] inb_S1x2304x1024_S1x2048x1024_0_256_0) y)
    (j : S1x2304x1024.Idx) :
    View.canon (Val := Elt Ideal) (e := .f32)
      [⟨Rect.unit ![0, 256, 0] ![1, 2048, 1024] inb_S1x2304x1024_S1x2048x1024_0_256_0,
        k0_pay2 (F := Ideal) (View.ld x (Rect.unit ![0, 256, 0] ![1, 2048, 1024] inb_S1x2304x1024_S1x2048x1024_0_256_0))
          (View.ld gate (Rect.unit ![0, 1, 0] ![1, 1, 1024] inb_S1x2x1024_S1x1x1024_0_1_0))
          o2⟩,
      ⟨Rect.unit ![0, 0, 0] ![1, 256, 1024] inb_S1x2304x1024_S1x256x1024_0_0_0,
        k0_pay1 (F := Ideal) (View.ld x (Rect.unit ![0, 0, 0] ![1, 256, 1024] inb_S1x2304x1024_S1x256x1024_0_0_0))
          (View.ld gate (Rect.unit ![0, 0, 0] ![1, 1, 1024] inb_S1x2x1024_S1x1x1024_0_0_0))
          o1⟩] j
      = gated x gate (o j) (j 1) (j 2) := by
  unfold gated
  canon_tiles x h using (View.cover_of_tiledBy _ ![1, 256, 1024] (by sl_kernel_rfl) j)
  · rw [latentRows, e2, if_neg (by have := (x 1).isLt; simp at this; omega)]
    blk_point <;> (pointwise; blk_point)
  · rw [contextRows, e1, if_pos (by have := (x 1).isLt; simp at this; omega)]
    blk_point <;> (pointwise; blk_point)

variable (m : (ℓ : Loc nD τ sig) → Buf (Elt Ideal) ℓ)

/-- What the expert of a grid point adds to one entry. -/
def addedAt (c : Dev nD) (t : Fin cfg0.N) (j : S1x2304x1024.Idx) : EReal :=
  added (grid0.coords t 1) (iblk m c 0 t) (iblk m c 1 t) (iblk m c 2 t) (iblk m c 3 t) (j 1) (j 2)

/-- The first expert leaves what it adds. -/
theorem first (c : Dev nD) (t : Fin cfg0.N) (h0 : t.val % 16 = 0) (h1 : ¬t.val % 16 = 15) (j : S1x2304x1024.Idx) :
    outsAt0 m c t.val t.isLt j = addedAt m c t j := by
  rw [outsAt0_A m c t h0 h1]; frame_out
  simp (disch := first | rfl | decide | (intro a; fin_cases a <;> rfl)) only [↓View.readCov_skip, ↓View.readCov_fill]
  refine (Cert.KernelIdeal.Ffn.canon_append_of_cover [_] [_, _, _, _, _, _, _, _, _] j (View.cover_of_tiled_head _ _ _ (by rfl) j)).trans ?_
  refine (tiles_at (grid0.coords t) (iblk m c 0 t) (iblk m c 1 t) (iblk m c 2 t) (iblk m c 3 t) (k0_pay3 (F := Ideal)) j).trans ?_
  unfold addedAt
  refine (congrArg (· + _) (show _ = (0 : EReal) from ?_)).trans (zero_add _)
  pointwise [k0_pay3]

/-- A later expert adds to what was there. -/
theorem mid (c : Dev nD) (t : Fin cfg0.N) (h0 : ¬t.val % 16 = 0) (h1 : ¬t.val % 16 = 15) (j : S1x2304x1024.Idx) :
    outsAt0 m c t.val t.isLt j
      = outsAt0 m c (t.val - 1) (Nat.lt_of_le_of_lt (Nat.sub_le t.val 1) t.isLt) j + addedAt m c t j := by
  rw [outsAt0_B m c t h0 h1]; frame_out
  exact tiles_at (grid0.coords t) (iblk m c 0 t) (iblk m c 1 t) (iblk m c 2 t) (iblk m c 3 t) (outsAt0 m c (t.val - 1) _) j

/-- The last expert adds to what was there and leaves the residual row plus the gate times the sum. -/
theorem last (c : Dev nD) (t : Fin cfg0.N) (h0 : ¬t.val % 16 = 0) (h1 : t.val % 16 = 15) (j : S1x2304x1024.Idx) :
    outsAt0 m c t.val t.isLt j
      = gated (iblk m c 4 t) (iblk m c 5 t)
          (outsAt0 m c (t.val - 1) (Nat.lt_of_le_of_lt (Nat.sub_le t.val 1) t.isLt) j + addedAt m c t j) (j 1) (j 2) := by
  unfold addedAt
  rw [← tiles_at]
  rw [outsAt0_C m c t h0 h1]; frame_out
  rw [← tiles]
  generalize tiles (grid0.coords t) (iblk m c 0 t) (iblk m c 1 t) (iblk m c 2 t) (iblk m c 3 t)
    (outsAt0 m c (t.val - 1) _) = T
  simp (disch := first | rfl | decide | (intro a; fin_cases a <;> rfl)) only [↓View.readCov_skip]
  refine (Cert.KernelIdeal.Ffn.canon_append_of_cover T [_, _] j
    (View.cover_of_tiledBy _ ![1, 256, 1024] (by sl_kernel_rfl) j)).trans ?_
  simp only [View.readCov_eq_canon']
  exact closing (iblk m c 4 t) (iblk m c 5 t) (View.canon T) _ _ (fun y => rfl) (fun y => rfl) j

end Cert.ScatterIdeal.Place
-- ==== Proof.ScatterArray.lean ====
/-
  What the scatter kernel's result array holds: every residual row plus the gate times the sum of what the sixteen experts
  add to it.
-/
module

public import proofs.«01_k».proof.Proof.ScatterBlock

@[expose] public section

noncomputable section

open Idealize.ShloMosaic Idealize.ShloMosaic.TcCoe Idealize.SL.Sem

namespace Cert.ScatterIdeal.Place

open Cert.ScatterIdeal Cert.ScatterIdeal.Gen

/-- The entry that position `p` names among `n`, times the weight `g`: zero if `p` is none of them. -/
def contrib {n : ℕ} (y : Fin n → EReal) (p : BitVec 32) (g : EReal) : EReal :=
  g * ∑ k : Fin n, (if p = BitVec.ofNat 32 k then 1 else 0) * y k

/-- What expert `e` adds to row `r` of sequence `b` at column `d`: a context row takes from the expert's 32 context rows of
the sequence, a latent row from its 256 latent rows. -/
def gain (ys : FVec Ideal S16x2048x1024 .bf16) (yc : FVec Ideal S16x256x1024 .bf16) (p : Vec Ideal S8x2304x16 .i32)
    (g : FVec Ideal S8x2304x16 .f32) (e : Fin 16) (b : Fin 8) (r : Fin 2304) (d : Fin 1024) : EReal :=
  if r.val < 256 then contrib (fun k : Fin 32 => yc (ix3 e ⟨b.val * 32 + k.val, by omega⟩ d)) (p (ix3 b r e)) (g (ix3 b r e))
  else contrib (fun k : Fin 256 => ys (ix3 e ⟨b.val * 256 + k.val, by omega⟩ d)) (p (ix3 b r e)) (g (ix3 b r e))

/-- The layer's result: the residual row plus the gate times the sum of what the experts add. -/
def result (ys : FVec Ideal S16x2048x1024 .bf16) (yc : FVec Ideal S16x256x1024 .bf16) (p : Vec Ideal S8x2304x16 .i32)
    (g : FVec Ideal S8x2304x16 .f32) (x : FVec Ideal S8x2304x1024 .f32) (gate : FVec Ideal S8x2x1024 .f32)
    (b : Fin 8) (r : Fin 2304) (d : Fin 1024) : EReal :=
  x (ix3 b r d) + gate (ix3 b (if r.val < 256 then 0 else 1) d) * ∑ e : Fin 16, gain ys yc p g e b r d

/-- Which blocks a grid point reads and writes: the sequence is the point's number over sixteen, the expert its remainder. -/
theorem idx : ∀ t : Fin cfg0.N,
    (win0_0.index t (0 : Fin 3) = t.val % 16 ∧ win0_0.index t (1 : Fin 3) = t.val / 16 ∧ win0_0.index t (2 : Fin 3) = 0)
    ∧ (win0_1.index t (0 : Fin 3) = t.val % 16 ∧ win0_1.index t (1 : Fin 3) = t.val / 16 ∧ win0_1.index t (2 : Fin 3) = 0)
    ∧ (win0_2.index t (0 : Fin 3) = t.val / 16 ∧ win0_2.index t (1 : Fin 3) = 0 ∧ win0_2.index t (2 : Fin 3) = 0)
    ∧ (win0_3.index t (0 : Fin 3) = t.val / 16 ∧ win0_3.index t (1 : Fin 3) = 0 ∧ win0_3.index t (2 : Fin 3) = 0)
    ∧ (win0_4.index t (0 : Fin 3) = t.val / 16 ∧ win0_4.index t (1 : Fin 3) = 0 ∧ win0_4.index t (2 : Fin 3) = 0)
    ∧ (win0_5.index t (0 : Fin 3) = t.val / 16 ∧ win0_5.index t (1 : Fin 3) = 0 ∧ win0_5.index t (2 : Fin 3) = 0)
    ∧ (win0_6.index t (0 : Fin 3) = t.val / 16 ∧ win0_6.index t (1 : Fin 3) = 0 ∧ win0_6.index t (2 : Fin 3) = 0) :=
  (by decide +kernel : ∀ t : Fin grid0.N, _)

/-- The expert of a point is its number's remainder. -/
theorem expert_val : ∀ t : Fin cfg0.N, (grid0.coords t 1).val = t.val % 16 := (by decide +kernel : ∀ t : Fin grid0.N, _)

variable (m : (ℓ : Loc nD τ sig) → Buf (Elt Ideal) ℓ)

/-- The sequence of a point. -/
def bOf (t : Fin cfg0.N) : Fin 8 := ⟨t.val / 16, by have := t.isLt; have e : cfg0.N = 128 := rfl; omega⟩

/-- The expert of a point. -/
def eOf (t : Fin cfg0.N) : Fin 16 := grid0.coords t 1

/-- The expert's latent rows of the point's sequence. -/
theorem blk0 (c : Dev nD) (t : Fin cfg0.N) (k : Fin 256) (d : Fin 1024) : (iblk m c 0 t : FVec Ideal S1x256x1024 .bf16) (ix3 0 k d)
    = (m ((c : Thread nD τ).loc main_arg0) : FVec Ideal S16x2048x1024 .bf16) (ix3 (eOf t) ⟨(bOf t).val * 256 + k.val, by omega⟩ d) := by
  have e := idx t
  have he : (eOf t).val = t.val % 16 := expert_val t
  have hb : (bOf t).val = t.val / 16 := rfl
  blk_ext! [iblk, V, e, he, hb]

/-- The expert's context rows of the point's sequence. -/
theorem blk1 (c : Dev nD) (t : Fin cfg0.N) (k : Fin 32) (d : Fin 1024) : (iblk m c 1 t : FVec Ideal S1x32x1024 .bf16) (ix3 0 k d)
    = (m ((c : Thread nD τ).loc main_arg1) : FVec Ideal S16x256x1024 .bf16) (ix3 (eOf t) ⟨(bOf t).val * 32 + k.val, by omega⟩ d) := by
  have e := idx t
  have he : (eOf t).val = t.val % 16 := expert_val t
  have hb : (bOf t).val = t.val / 16 := rfl
  blk_ext! [iblk, V, e, he, hb]

/-- The positions of the sequence's tokens. -/
theorem blk2 (c : Dev nD) (t : Fin cfg0.N) (r : Fin 2304) (x : Fin 16) : (iblk m c 2 t : Vec Ideal S1x2304x16 .i32) (ix3 0 r x)
    = (m ((c : Thread nD τ).loc main_arg2) : Vec Ideal S8x2304x16 .i32) (ix3 (bOf t) r x) := by
  have e := idx t
  have hb : (bOf t).val = t.val / 16 := rfl
  blk_ext! [iblk, V, e, hb]

/-- The weights of the sequence's tokens. -/
theorem blk3 (c : Dev nD) (t : Fin cfg0.N) (r : Fin 2304) (x : Fin 16) : (iblk m c 3 t : FVec Ideal S1x2304x16 .f32) (ix3 0 r x)
    = (m ((c : Thread nD τ).loc main_arg3) : FVec Ideal S8x2304x16 .f32) (ix3 (bOf t) r x) := by
  have e := idx t
  have hb : (bOf t).val = t.val / 16 := rfl
  blk_ext! [iblk, V, e, hb]

/-- The residual rows of the sequence. -/
theorem blk4 (c : Dev nD) (t : Fin cfg0.N) (r : Fin 2304) (d : Fin 1024) : (iblk m c 4 t : FVec Ideal S1x2304x1024 .f32) (ix3 0 r d)
    = (m ((c : Thread nD τ).loc main_arg4) : FVec Ideal S8x2304x1024 .f32) (ix3 (bOf t) r d) := by
  have e := idx t
  have hb : (bOf t).val = t.val / 16 := rfl
  blk_ext! [iblk, V, e, hb]

/-- The gates of the sequence. -/
theorem blk5 (c : Dev nD) (t : Fin cfg0.N) (s : Fin 2) (d : Fin 1024) : (iblk m c 5 t : FVec Ideal S1x2x1024 .f32) (ix3 0 s d)
    = (m ((c : Thread nD τ).loc main_arg5) : FVec Ideal S8x2x1024 .f32) (ix3 (bOf t) s d) := by
  have e := idx t
  have hb : (bOf t).val = t.val / 16 := rfl
  blk_ext! [iblk, V, e, hb]

/-- What the launch's experts add. -/
def gainAt (c : Dev nD) : Fin 16 → Fin 8 → Fin 2304 → Fin 1024 → EReal :=
  gain (m ((c : Thread nD τ).loc main_arg0)) (m ((c : Thread nD τ).loc main_arg1)) (m ((c : Thread nD τ).loc main_arg2))
    (m ((c : Thread nD τ).loc main_arg3))

/-- The launch's result. -/
def resultAt (c : Dev nD) : Fin 8 → Fin 2304 → Fin 1024 → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What a point's expert adds is what that expert adds to the point's sequence. -/
theorem added_eq (c : Dev nD) (t : Fin cfg0.N) (r : Fin 2304) (d : Fin 1024) :
    addedAt m c t (ix3 0 r d) = gainAt m c (eOf t) (bOf t) r d := by
  show added (eOf t) (iblk m c 0 t) (iblk m c 1 t) (iblk m c 2 t) (iblk m c 3 t) r d = _
  unfold added gainAt gain share contrib
  simp only [blk0, blk1, blk2, blk3]

/-- The sum so far at a point, the last point's closing step left out. -/
def acc (c : Dev nD) (n : ℕ) (hn : n < cfg0.N) (j : S1x2304x1024.Idx) : EReal :=
  if n % 16 = 15 then outsAt0 m c (n - 1) (Nat.lt_of_le_of_lt (Nat.sub_le n 1) hn) j + addedAt m c ⟨n, hn⟩ j else outsAt0 m c n hn j

/-- At the sequence's last point it is the sum over the sixteen experts. -/
theorem acc_sum (c : Dev nD) (t : Fin cfg0.N) (ht : t.val % 16 = 15) (j : S1x2304x1024.Idx) :
    acc m c t.val t.isLt j
      = ∑ s : Fin 16, addedAt m c ⟨16 * (t.val / 16) + s.val, Pipeline.run_point_lt_of_flush t ht s⟩ j := by
  rw [Pipeline.eq_sum_fin_of_reset_step_apply_of_flush (fun n h => acc m c n h) 16 (fun _ => (0 : EReal)) (addedAt m c)
    (fun t h i => by
      show acc m c t.val t.isLt i = _
      unfold acc
      rw [if_neg (by omega)]
      exact (first m c t h (by omega) i).trans (zero_add _).symm)
    (fun t h i => by
      show acc m c t.val t.isLt i = acc m c (t.val - 1) _ i + _
      unfold acc
      rw [if_neg (show ¬(t.val - 1) % 16 = 15 by omega)]
      by_cases h1 : t.val % 16 = 15
      · rw [if_pos h1]
      · rw [if_neg h1]; exact mid m c t h h1 i) t ht j]
  exact zero_add _

/-- What the sequence's last point writes. -/
theorem point (c : Dev nD) (t : Fin cfg0.N) (ht : t.val % 16 = 15) (r : Fin 2304) (d : Fin 1024) (b' : Fin 8) (r' : Fin 2304)
    (d' : Fin 1024) (hb : b'.val = t.val / 16) (hr : r'.val = r.val) (hd : d'.val = d.val) :
    outsAt0 m c t.val t.isLt (ix3 0 r d) = resultAt m c b' r' d' := by
  obtain rfl : b' = bOf t := Fin.ext hb
  obtain rfl : r' = r := Fin.ext hr
  obtain rfl : d' = d := Fin.ext hd
  have hs := acc_sum m c t ht (ix3 0 r' d')
  unfold acc at hs
  rw [if_pos ht] at hs
  rw [last m c t (by omega) ht, hs]
  unfold gated resultAt result
  refine congrArg₂ (· + ·) (blk4 m c t r' d') (congrArg₂ (· * ·) (blk5 m c t _ d')
    (Finset.sum_congr rfl fun s _ => (added_eq m c _ _ _).trans ?_))
  have hb : bOf ⟨16 * (t.val / 16) + s.val, Pipeline.run_point_lt_of_flush t ht s⟩ = bOf t := Fin.ext (by simp only [bOf]; omega)
  have he : eOf ⟨16 * (t.val / 16) + s.val, Pipeline.run_point_lt_of_flush t ht s⟩ = s :=
    Fin.ext ((expert_val _).trans (by show (16 * (t.val / 16) + s.val) % 16 = s.val; omega))
  rw [hb, he]; rfl

/-- The result array. -/
def arr (c : Dev nD) : Buf (Elt Ideal) ((c : Thread nD τ).loc main_v0) := fun i : S8x2304x1024.Idx => resultAt m c (i 0) (i 1) (i 2)

/-- An index of a block is its row and its column. -/
theorem ix_block (j : S1x2304x1024.Idx) : j = ix3 (n0 := 1) (n1 := 2304) (n2 := 1024) 0 (j 1) (j 2) := by
  funext k
  match k with
  | 0 => exact Subsingleton.elim (α := Fin 1) _ _
  | 1 => rfl
  | 2 => rfl

/-- The result's array after the run. -/
theorem final (c : Dev nD) : (dats m 0 c).arrAt 6 cfg0.N = arr m c := by
  refine (dats m 0 c).arrAt_eq_of_covers 6 _ (by decide +kernel) fun t hf y => ?_
  have e := idx t
  refine (congrFun (after0_6 m c t) y).trans ((congrArg _ (ix_block y)).trans (point m c t ((flush0_6 t).mp hf) (y 1) (y 2) _ _ _ ?_ ?_ ?_))
  all_goals (blk_simp [e])

end Cert.ScatterIdeal.Place
-- ==== Proof.ScatterRef.lean ====
/-
  What the reference of the scatter kernel computes, entry by entry, over the extended reals: its gathers read the row at
  the token's position, the rows of tokens outside an expert's rows are dropped, and the sum over the experts is the
  kernel's.
-/
module

public import proofs.«01_k».proof.Proof.ScatterArray
public import proofs.«01_k».proof.Proof.Gen.ScatterRefIdeal.Read

@[expose] public section

noncomputable section

open Idealize.ShloMosaic Idealize.ShloMosaic.TcCoe Idealize.SL.Sem

namespace Cert.ScatterRefIdeal.Place

open Cert.ScatterRefIdeal Cert.ScatterRefIdeal.Gen Cert.ScatterRefIdeal.Read Idealize.ShloMosaic.StableHlo
open Cert.ScatterIdeal.Place (contrib gain result)

/-- One row per token out of an array of `N` rows per sequence and expert, at the token's row index. -/
abbrev rowDims (N T : ℕ)
    (wf : GatherDims.WF ⟨4, ![8, 16, N, 1024]⟩ ⟨4, ![8, 16, T, 1]⟩ ⟨4, ![8, 16, T, 1024]⟩ [3] [2] [0, 1] [2] [0, 1] 3 ![1, 1, 1, 1024]) :
    GatherDims ⟨4, ![8, 16, N, 1024]⟩ ⟨4, ![8, 16, T, 1]⟩ ⟨4, ![8, 16, T, 1024]⟩ where
  offsetDims := [3]
  collapsedSliceDims := [2]
  operandBatchingDims := [0, 1]
  startIndicesBatchingDims := [0, 1]
  startIndexMap := [2]
  indexVectorDim := 3
  sliceSizes := ![1, 1, 1, 1024]
  wf := wf

/-- It reads the row whose number is the token's index, read signed and clamped. -/
theorem gather_row {α : Type} {N T : ℕ} (hN : 0 < N)
    (wf : GatherDims.WF ⟨4, ![8, 16, N, 1024]⟩ ⟨4, ![8, 16, T, 1]⟩ ⟨4, ![8, 16, T, 1024]⟩ [3] [2] [0, 1] [2] [0, 1] 3 ![1, 1, 1, 1024])
    (x : (⟨4, ![8, 16, N, 1024]⟩ : Shape).Idx → α) (q : IVec ⟨4, ![8, 16, T, 1]⟩ 32) (b : Fin 8) (e : Fin 16) (t : Fin T) (d : Fin 1024) :
    Host.gather (rowDims N T wf) x q (ix4 b e t d)
      = x (ix4 b e ⟨min (q (ix4 b e t 0)).toInt.toNat (N - 1), by omega⟩ d) := by
  unfold Host.gather
  congr 1
  funext a
  refine Fin.ext ?_
  show (rowDims N T wf).start (ix4 b e t d) q a + (rowDims N T wf).batchCoord (ix4 b e t d) a
      + (rowDims N T wf).offCoord (ix4 b e t d) a = _
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.start_batching _ _ _ _ (by decide : (0 : Fin 4) ∈ [(0 : Fin 4), 1]),
      GatherDims.offCoord_eq_zero _ _ _ (fun h => ((GatherDims.mem_sKept _ _).mp h).2 (by decide : (0 : Fin 4) ∈ [(0 : Fin 4), 1]))]
    simp only [Nat.zero_add, Nat.add_zero]
    unfold GatherDims.batchCoord
    rw [dif_pos (by decide : (0 : Fin 4) ∈ [(0 : Fin 4), 1])]
    rfl
  · rw [GatherDims.start_batching _ _ _ _ (by decide : (1 : Fin 4) ∈ [(0 : Fin 4), 1]),
      GatherDims.offCoord_eq_zero _ _ _ (fun h => ((GatherDims.mem_sKept _ _).mp h).2 (by decide : (1 : Fin 4) ∈ [(0 : Fin 4), 1]))]
    simp only [Nat.zero_add, Nat.add_zero]
    unfold GatherDims.batchCoord
    rw [dif_pos (by decide : (1 : Fin 4) ∈ [(0 : Fin 4), 1])]
    rfl
  · rw [GatherDims.batchCoord_eq_zero _ _ _ (by decide : ¬(2 : Fin 4) ∈ [(0 : Fin 4), 1]),
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (rowDims N T wf).startIndexMap from List.mem_singleton.mpr rfl)]
    have hsi : (rowDims N T wf).siIdx (ix4 b e t d) ⟨List.idxOf (2 : Fin 4) (rowDims N T wf).startIndexMap,
        List.idxOf_lt_length_iff.2 (List.mem_singleton.mpr rfl)⟩ = ix4 b e t 0 := by
      funext k; refine Fin.ext ?_
      match k with
      | ⟨0, _⟩ => rfl
      | ⟨1, _⟩ => rfl
      | ⟨2, _⟩ => rfl
      | ⟨3, _⟩ => rfl
    rw [hsi]
    rfl
  · rw [GatherDims.batchCoord_eq_zero _ _ _ (by decide : ¬(3 : Fin 4) ∈ [(0 : Fin 4), 1])]
    simp only [Nat.add_zero]
    unfold GatherDims.start
    rw [dif_neg (show ¬(3 : Fin 4) ∈ (rowDims N T wf).startIndexMap from (by decide : ¬(3 : Fin 4) ∈ [(2 : Fin 4)]))]
    simp only [Nat.zero_add]
    rfl

/-- The mask of the tokens that an expert has a row for. -/
theorem kept (n : ℕ) (hn : n < 2 ^ 31) (p : BitVec 32) (u v : EReal) :
    Scalar.select (IntOp.andi (IntOp.cmpi .sge p 0#32) (IntOp.cmpi .slt p (BitVec.ofNat 32 n))) u v
      = if 0 ≤ p.toInt ∧ p.toInt < n then u else v := by
  rw [WordCmp.cmpi_sge_eq, WordCmp.cmpi_slt_eq, WordCmp.andi_ofBool, WordCmp.toInt_ofNat_of_lt (w := 32) hn]
  by_cases h0 : 0 ≤ p.toInt <;> by_cases h1 : p.toInt < (n : ℤ) <;> simp [Scalar.select, h0, h1]

/-- A position that is not negative is read as it is. -/
theorem unwrapped (p q : BitVec 32) (h : 0 ≤ p.toInt) : Scalar.select (IntOp.cmpi .slt p 0#32) q p = p := by
  rw [WordCmp.cmpi_slt_eq]
  have h' : ¬ p.toInt < 0 := by omega
  simp [Scalar.select, h']

/-- A position among `n` names one entry; another names none. -/
theorem contrib_eq {n : ℕ} (hn : n < 2 ^ 31) (y : Fin n → EReal) (p : BitVec 32) (g : EReal) :
    contrib y p g = if h : 0 ≤ p.toInt ∧ p.toInt < n then g * y ⟨p.toInt.toNat, by omega⟩ else 0 := by
  unfold contrib
  have key : ∀ k : Fin n, p = BitVec.ofNat 32 k ↔ p.toInt = k.val := fun k => by
    have hk := k.isLt
    have e := WordCmp.toInt_ofNat_of_lt (w := 32) (a := k.val) (by omega)
    exact ⟨fun h => h ▸ e, fun h => BitVec.eq_of_toInt_eq (h.trans e.symm)⟩
  simp only [key]
  split
  · rename_i h
    rw [Finset.sum_eq_single ⟨p.toInt.toNat, by omega⟩]
    · rw [if_pos (by simp; omega), one_mul]
    · intro k _ hk
      rw [if_neg (fun e => hk (Fin.ext (by simp [e]))), zero_mul]
    · simp
  · rename_i h
    rw [Finset.sum_eq_zero fun k _ => by rw [if_neg (fun e => h (by have := k.isLt; omega)), zero_mul], mul_zero]

variable (x0 : FVec Ideal S16x2048x1024 .bf16) (x1 : FVec Ideal S16x256x1024 .bf16) (x2 : Vec Ideal S8x2304x16 .i32)
  (x3 : FVec Ideal S8x2304x16 .f32) (x4 : FVec Ideal S8x2304x1024 .f32) (x5 : FVec Ideal S8x2x1024 .f32)

/-- A context token's row of an expert, where the expert has one for it. -/
theorem context_row (b : Fin 8) (e : Fin 16) (r : Fin 256) (d : Fin 1024) (h : 0 ≤ (x2 (ix3 b ⟨r.val, by omega⟩ e)).toInt ∧ (x2 (ix3 b ⟨r.val, by omega⟩ e)).toInt < (32 : ℕ)) :
    val_main_v10 (F := Ideal) x1 x2 (ix4 b e r d)
      = x1 (ix3 e ⟨b.val * 32 + (x2 (ix3 b ⟨r.val, by omega⟩ e)).toInt.toNat, by omega⟩ d) := by
  refine (gather_row (by norm_num) Cert.ScatterRefIdeal.Gen.facts.toFacts₀.gather_S8x16x32x1024_S8x16x256x1_S8x16x256x1024_3_2_01_01_2_3_1111024_wf _ _ b e r d).trans ?_
  pointwise [val_main_v3, val_main_v2, val_main_v1, val_main_call0_v4, val_main_call0_v1, val_main_v6, val_main_v5, val_main_v4, val_main_call0_v0, val_main_call0_c, val_main_call0_v3, val_main_call0_v2, val_main_call0_c_0]
  simp only [unwrapped _ _ h.1]
  congr 2
  exact Fin.ext (by simp; omega)

/-- A latent token's row of an expert, where the expert has one for it. -/
theorem latent_row (b : Fin 8) (e : Fin 16) (r : Fin 2048) (d : Fin 1024) (h : 0 ≤ (x2 (ix3 b ⟨256 + r.val, by omega⟩ e)).toInt ∧ (x2 (ix3 b ⟨256 + r.val, by omega⟩ e)).toInt < (256 : ℕ)) :
    val_main_v34 (F := Ideal) x0 x2 (ix4 b e r d)
      = x0 (ix3 e ⟨b.val * 256 + (x2 (ix3 b ⟨256 + r.val, by omega⟩ e)).toInt.toNat, by omega⟩ d) := by
  refine (gather_row (by norm_num) Cert.ScatterRefIdeal.Gen.facts.toFacts₀.gather_S8x16x256x1024_S8x16x2048x1_S8x16x2048x1024_3_2_01_01_2_3_1111024_wf _ _ b e r d).trans ?_
  pointwise [val_main_v27, val_main_v26, val_main_v25, val_main_call2_v4, val_main_call2_v1, val_main_v30, val_main_v29, val_main_v28, val_main_call2_v0, val_main_call2_c, val_main_call2_v3, val_main_call2_v2, val_main_call2_c_0]
  simp only [unwrapped _ _ h.1]
  congr 2
  exact Fin.ext (by simp; omega)

/-- The result of a context token, its gate picked out. -/
theorem context_gated (b : Fin 8) (r : Fin 256) (d : Fin 1024) :
    result x0 x1 x2 x3 x4 x5 b ⟨r.val, by omega⟩ d
      = x4 (ix3 b ⟨r.val, by omega⟩ d) + x5 (ix3 b 0 d) * ∑ e : Fin 16, gain x0 x1 x2 x3 e b ⟨r.val, by omega⟩ d := by
  have hr := r.isLt
  unfold result
  rw [if_pos hr]

/-- The context rows of the result. -/
theorem context_result (b : Fin 8) (r : Fin 256) (d : Fin 1024) :
    val_main_v23 (F := Ideal) x1 x2 x3 x4 x5 (ix3 b r d) = result x0 x1 x2 x3 x4 x5 b ⟨r.val, by omega⟩ d := by
  rw [context_gated]
  have hr := r.isLt
  pointwise [val_main_v23, val_main_v13, val_main_v22, val_main_v21, val_main_v0, val_main_v20, val_main_v19, val_main_call1_v1, val_main_v18, val_main_v15, val_main_v6, val_main_v5, val_main_v4, val_main_v14, val_main_c, val_main_v17, val_main_v16, val_main_c_0, val_main_v12, val_main_v11, val_main_v9, val_main_v8, val_main_v7, val_main_call1_v2, val_main_call1_v0, val_main_cst, val_main_cst_1]
  refine congrArg₂ (· + ·) rfl (congrArg₂ (· * ·) rfl (Finset.sum_congr rfl fun e _ => ?_))
  unfold gain
  rw [if_pos hr, contrib_eq (by norm_num)]
  refine (kept 32 (by norm_num) _ _ _).trans ?_
  split
  · rename_i h
    exact (congrArg (· * _) (context_row x1 x2 b e r d h)).trans (mul_comm _ _)
  · exact Ideal.ofBits_zero FTy.f32

/-- The result of a latent token, its gate picked out. -/
theorem latent_gated (b : Fin 8) (r : Fin 2048) (d : Fin 1024) :
    result x0 x1 x2 x3 x4 x5 b ⟨256 + r.val, by omega⟩ d
      = x4 (ix3 b ⟨256 + r.val, by omega⟩ d) + x5 (ix3 b 1 d) * ∑ e : Fin 16, gain x0 x1 x2 x3 e b ⟨256 + r.val, by omega⟩ d := by
  have hr : ¬ 256 + r.val < 256 := by omega
  unfold result
  rw [if_neg hr]

/-- The latent rows of the result. -/
theorem latent_result (b : Fin 8) (r : Fin 2048) (d : Fin 1024) :
    val_main_v47 (F := Ideal) x0 x2 x3 x4 x5 (ix3 b r d) = result x0 x1 x2 x3 x4 x5 b ⟨256 + r.val, by omega⟩ d := by
  rw [latent_gated]
  have hr : ¬ 256 + r.val < 256 := by omega
  pointwise [val_main_v47, val_main_v37, val_main_v46, val_main_v45, val_main_v24, val_main_v44, val_main_v43, val_main_call3_v1, val_main_v42, val_main_v39, val_main_v30, val_main_v29, val_main_v28, val_main_v38, val_main_c_2, val_main_v41, val_main_v40, val_main_c_3, val_main_v36, val_main_v35, val_main_v33, val_main_v32, val_main_v31, val_main_call3_v2, val_main_call3_v0, val_main_cst_4, val_main_cst_5]
  refine congrArg₂ (· + ·) rfl (congrArg₂ (· * ·) rfl (Finset.sum_congr rfl fun e _ => ?_))
  unfold gain
  rw [if_neg hr, contrib_eq (by norm_num)]
  refine (kept 256 (by norm_num) _ _ _).trans ?_
  split
  · rename_i h
    exact (congrArg (· * _) (latent_row x0 x2 b e r d h)).trans (mul_comm _ _)
  · exact Ideal.ofBits_zero FTy.f32

/-- The result: context rows first. -/
theorem res (i : S8x2304x1024.Idx) : val_main_v48 (F := Ideal) x0 x1 x2 x3 x4 x5 i = result x0 x1 x2 x3 x4 x5 (i 0) (i 1) (i 2) := by
  pointwise [val_main_v48]
  split <;> rename_i h
  · exact context_result x0 x1 x2 x3 x4 x5 _ _ _
  · refine (latent_result x0 x1 x2 x3 x4 x5 _ _ _).trans ?_
    congr 1
    exact Fin.ext (by simp; omega)

end Cert.ScatterRefIdeal.Place
-- ==== Proof.ScatterClaim.lean ====
/-
  The claims of the scatter kernel: it runs and leaves its arguments as they are, and its one result is the reference's.
-/
module

public import proofs.«01_k».proof.Defs
public import proofs.«01_k».proof.Proof.ScatterRef
public import proofs.«01_k».proof.Proof.Gen.Scatter.Frame
public import Idealize.ShloMosaic.Adequacy
public import Idealize.ShloMosaic.Init

@[expose] public section

noncomputable section

open Idealize.ShloMosaic Idealize.ShloMosaic.TcCoe Idealize.SL.Sem

namespace Cert.Proof.Scatter

open Cert.ScatterIdeal.Place (arr final)
open Cert.ScatterRefIdeal.Place (res)

/-- The kernel as it is runs and leaves its arguments as they are. -/
theorem frame : Cert.quiescent_Scatter := fun m ρ _ => Cert.Scatter.Gen.frame m ρ

/-- So does the kernel read over the extended reals. -/
theorem frame_ideal : Cert.quiescent_ScatterIdeal := fun m ρ _ => Cert.ScatterIdeal.Gen.frame m ρ

/-- So does the reference. -/
theorem frame_ref : Cert.quiescent_ScatterRefIdeal := fun m ρ _ =>
  (θ_run Cert.ScatterRefIdeal.defs _ _).mono (fun r h => ⟨fun c => (h c).2, sem_eq_zero_of_no_sems (by decide) r.2⟩)
    (Cert.ScatterRefIdeal.Value.run (F := Ideal) m ρ)

/-- The reading over the extended reals keeps the kernel's operations. -/
theorem preserves : Cert.preserves_Scatter_ScatterIdeal := trivial

/-- Over the extended reals the kernel's result is the reference's. -/
theorem algebraic : Cert.algebraic_ScatterIdeal_ScatterRefIdeal := by
  intro m ρ m' ρ' _ hagree
  refine ⟨arr m, (θ_run Cert.ScatterIdeal.defs _ _).mono (fun r h c => ⟨(h c).1.trans (final m c), (h c).2⟩)
    (Cert.ScatterIdeal.Value.run_blocks m ρ), ?_⟩
  refine (θ_run Cert.ScatterRefIdeal.defs _ _).mono (fun r h c => ?_) (Cert.ScatterRefIdeal.Value.run (F := Ideal) m' ρ')
  obtain ⟨h0, hk⟩ := h c
  obtain ⟨a0, a1, a2, a3, a4, a5⟩ := hagree c
  refine ⟨(h0.trans (Cert.ScatterRefIdeal.Read.val_main_v48_eq ..)).trans ?_, hk⟩
  simp only [a0, a1, a2, a3, a4, a5]
  funext i
  exact res _ _ _ _ _ _ i

end Cert.Proof.Scatter
-- ==== Proof.GatherBlock.lean ====
/-
  What one grid point of the gather kernel computes, over the extended reals. A point is one expert of one sequence: it
  puts each token's row into the slot that the token's position names, latent tokens into 256 slots and context tokens into
  32; a slot that no token names stays zero.
-/
module

public import proofs.«01_k».proof.Proof.ScatterClaim
public import proofs.«01_k».proof.Proof.Gen.GatherIdeal.Value
public import Idealize.ShloMosaic.Lib.Pipeline.ValueKit.Point

@[expose] public section

noncomputable section

open Idealize.ShloMosaic Idealize.ShloMosaic.TcCoe Idealize.SL.Sem

namespace Cert.GatherIdeal.Slots

open Cert.GatherIdeal Cert.GatherIdeal.Gen

/-- What slot `k` holds: the sum of the entries `y` of the tokens whose position is `k`. -/
def slot {T : ℕ} (p : Fin T → BitVec 32) (y : Fin T → EReal) (k : ℕ) : EReal :=
  ∑ t : Fin T, if (p t).toInt = k then y t else 0

/-- A token's lane of the one-hot row of slot `k`, times the token's entry. -/
theorem lane (k : ℕ) (hk : k < 2 ^ 31) (p : BitVec 32) (y : EReal) :
    Scalar.select (IntOp.cmpi .eq (BitVec.ofNat 32 k) p) y 0 = if p.toInt = k then y else 0 := by
  have key : BitVec.ofNat 32 k = p ↔ p.toInt = k := by
    have e := WordCmp.toInt_ofNat_of_lt (w := 32) hk
    exact ⟨fun h => h ▸ e, fun h => BitVec.eq_of_toInt_eq (e.trans h.symm)⟩
  by_cases h : p.toInt = k
  · rw [if_pos h]; exact if_pos (IntOp.cmpi_eq.mpr (key.mpr h))
  · rw [if_neg h]; exact if_neg (fun c => h (key.mp (IntOp.cmpi_eq.mp c)))

variable (x0 : Vec Ideal S1x1x1x2304 .i32) (x1 : FVec Ideal S1x2304x1024 .bf16)

/-- The first output gets the latent tokens' slots. -/
theorem out2 (k : Fin 256) (d : Fin 1024) :
    out0_2 (F := Ideal) x0 x1 (ix3 0 k d)
      = slot (fun t : Fin 2048 => x0 (ix4 0 0 0 ⟨256 + t.val, by omega⟩)) (fun t => x1 (ix3 0 ⟨256 + t.val, by omega⟩ d)) k.val := by
  unfold out0_2; frame_out
  unfold_payloads; unfold slot; pointwise
  exact Finset.sum_congr rfl fun t _ => lane k.val (by omega) _ _

/-- The second output gets the context tokens' slots. -/
theorem out3 (k : Fin 32) (d : Fin 1024) :
    out0_3 (F := Ideal) x0 x1 (ix3 0 k d)
      = slot (fun t : Fin 256 => x0 (ix4 0 0 0 ⟨t.val, by omega⟩)) (fun t => x1 (ix3 0 ⟨t.val, by omega⟩ d)) k.val := by
  unfold out0_3; frame_out
  unfold_payloads; unfold slot; pointwise
  exact Finset.sum_congr rfl fun t _ => lane k.val (by omega) _ _

end Cert.GatherIdeal.Slots
-- ==== Proof.GatherArray.lean ====
/-
  What the gather kernel's two result arrays hold: every slot of every expert of every sequence holds the sum of the rows
  of the tokens that name it.
-/
module

public import proofs.«01_k».proof.Proof.GatherBlock

@[expose] public section

noncomputable section

open Idealize.ShloMosaic Idealize.ShloMosaic.TcCoe Idealize.SL.Sem

namespace Cert.GatherIdeal.Slots

open Cert.GatherIdeal Cert.GatherIdeal.Gen

/-- Slot `s` of expert `e` among the latent tokens' slots, 256 for each sequence: entry `d`. -/
def latents (p : Vec Ideal S8x16x2304 .i32) (h : FVec Ideal S8x2304x1024 .bf16) (e : Fin 16) (s : Fin 2048) (d : Fin 1024) : EReal :=
  slot (fun t : Fin 2048 => p (ix3 ⟨s.val / 256, by omega⟩ e ⟨256 + t.val, by omega⟩))
    (fun t => h (ix3 ⟨s.val / 256, by omega⟩ ⟨256 + t.val, by omega⟩ d)) (s.val % 256)

/-- Slot `s` of expert `e` among the context tokens' slots, 32 for each sequence: entry `d`. -/
def context (p : Vec Ideal S8x16x2304 .i32) (h : FVec Ideal S8x2304x1024 .bf16) (e : Fin 16) (s : Fin 256) (d : Fin 1024) : EReal :=
  slot (fun t : Fin 256 => p (ix3 ⟨s.val / 32, by omega⟩ e ⟨t.val, by omega⟩))
    (fun t => h (ix3 ⟨s.val / 32, by omega⟩ ⟨t.val, by omega⟩ d)) (s.val % 32)

/-- Which blocks a grid point reads and writes: the sequence is the point's number over sixteen, the expert its remainder. -/
theorem idx : ∀ t : Fin cfg0.N,
    (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 3) = t.val / 16 ∧ win0_1.index t (1 : Fin 3) = 0 ∧ win0_1.index t (2 : Fin 3) = 0)
    ∧ (win0_2.index t (0 : Fin 3) = t.val % 16 ∧ win0_2.index t (1 : Fin 3) = t.val / 16 ∧ win0_2.index t (2 : Fin 3) = 0)
    ∧ (win0_3.index t (0 : Fin 3) = t.val % 16 ∧ win0_3.index t (1 : Fin 3) = t.val / 16 ∧ win0_3.index t (2 : Fin 3) = 0) :=
  (by decide +kernel : ∀ t : Fin grid0.N, _)

variable (m : (ℓ : Loc nD τ sig) → Buf (Elt Ideal) ℓ)

/-- The sequence of a point. -/
def bOf (t : Fin cfg0.N) : Fin 8 := ⟨t.val / 16, by have := t.isLt; have e : cfg0.N = 128 := rfl; omega⟩

/-- The expert of a point. -/
def eOf (t : Fin cfg0.N) : Fin 16 := ⟨t.val % 16, by omega⟩

/-- A point's latent slots lie among the expert's. -/
theorem bound2 (t : Fin cfg0.N) (k : Fin 256) : t.val / 16 * 256 + k.val < 2048 := by
  have := t.isLt; have e : cfg0.N = 128 := rfl; omega

/-- So do its context slots. -/
theorem bound3 (t : Fin cfg0.N) (k : Fin 32) : t.val / 16 * 32 + k.val < 256 := by
  have := t.isLt; have e : cfg0.N = 128 := rfl; omega

/-- The positions of the sequence's tokens for the expert. -/
theorem blk0 (c : Dev nD) (t : Fin cfg0.N) (r : Fin 2304) : (iblk m c 0 t : Vec Ideal S1x1x1x2304 .i32) (ix4 0 0 0 r)
    = (m ((c : Thread nD τ).loc main_arg0) : Vec Ideal S8x16x2304 .i32) (ix3 (bOf t) (eOf t) r) := by
  have e := idx t
  have he : (eOf t).val = t.val % 16 := rfl
  have hb : (bOf t).val = t.val / 16 := rfl
  blk_ext! [iblk, V, e, he, hb]

/-- The rows of the sequence's tokens. -/
theorem blk1 (c : Dev nD) (t : Fin cfg0.N) (r : Fin 2304) (d : Fin 1024) : (iblk m c 1 t : FVec Ideal S1x2304x1024 .bf16) (ix3 0 r d)
    = (m ((c : Thread nD τ).loc main_arg1) : FVec Ideal S8x2304x1024 .bf16) (ix3 (bOf t) r d) := by
  have e := idx t
  have hb : (bOf t).val = t.val / 16 := rfl
  blk_ext! [iblk, V, e, hb]

/-- The first result: the latent tokens' slots. -/
def arr2 (c : Dev nD) : Buf (Elt Ideal) ((c : Thread nD τ).loc main_v1_0) := fun i : S16x2048x1024.Idx =>
  latents (m ((c : Thread nD τ).loc main_arg0)) (m ((c : Thread nD τ).loc main_arg1)) (i 0) (i 1) (i 2)

/-- The second result: the context tokens' slots. -/
def arr3 (c : Dev nD) : Buf (Elt Ideal) ((c : Thread nD τ).loc main_v1_1) := fun i : S16x256x1024.Idx =>
  context (m ((c : Thread nD τ).loc main_arg0)) (m ((c : Thread nD τ).loc main_arg1)) (i 0) (i 1) (i 2)

/-- What a point writes to the first output. -/
theorem point2 (c : Dev nD) (t : Fin cfg0.N) (k : Fin 256) (d : Fin 1024) (e' : Fin 16) (s' : Fin 2048) (d' : Fin 1024)
    (he : e'.val = t.val % 16) (hs : s'.val = t.val / 16 * 256 + k.val) (hd : d'.val = d.val) :
    out0_2 (F := Ideal) (iblk m c 0 t) (iblk m c 1 t) (ix3 0 k d) = arr2 m c (ix3 e' s' d') := by
  obtain rfl : e' = eOf t := Fin.ext he
  obtain rfl : d' = d := Fin.ext hd
  have hb : (⟨s'.val / 256, by omega⟩ : Fin 8) = bOf t := Fin.ext (by show s'.val / 256 = t.val / 16; omega)
  have hk : s'.val % 256 = k.val := by omega
  refine (out2 ..).trans ?_
  simp only [blk0, blk1]
  show _ = latents _ _ (eOf t) s' d'
  unfold latents
  rw [hb, hk]

/-- An index of the first output's block is its row and its column. -/
theorem ix_block2 (j : S1x256x1024.Idx) : j = ix3 (n0 := 1) (n1 := 256) (n2 := 1024) 0 (j 1) (j 2) := by
  funext k
  match k with
  | 0 => exact Subsingleton.elim (α := Fin 1) _ _
  | 1 => rfl
  | 2 => rfl

/-- The first result's array after the run. -/
theorem final2 (c : Dev nD) : (dats m 0 c).arrAt 2 cfg0.N = arr2 m c := by
  refine (dats m 0 c).arrAt_eq_of_covers 2 _ (by decide +kernel) fun t hf y => ?_
  have e := idx t
  refine (congrFun (after0_2 m c t) y).trans ((congrArg _ (ix_block2 y)).trans
    ((point2 m c t (y 1) (y 2) ⟨t.val % 16, by omega⟩ ⟨t.val / 16 * 256 + (y 1).val, bound2 t (y 1)⟩ (y 2) rfl rfl rfl).trans ?_))
  refine congrArg (arr2 m c) ?_
  blk_ext! [e]

/-- What a point writes to the second output. -/
theorem point3 (c : Dev nD) (t : Fin cfg0.N) (k : Fin 32) (d : Fin 1024) (e' : Fin 16) (s' : Fin 256) (d' : Fin 1024)
    (he : e'.val = t.val % 16) (hs : s'.val = t.val / 16 * 32 + k.val) (hd : d'.val = d.val) :
    out0_3 (F := Ideal) (iblk m c 0 t) (iblk m c 1 t) (ix3 0 k d) = arr3 m c (ix3 e' s' d') := by
  obtain rfl : e' = eOf t := Fin.ext he
  obtain rfl : d' = d := Fin.ext hd
  have hb : (⟨s'.val / 32, by omega⟩ : Fin 8) = bOf t := Fin.ext (by show s'.val / 32 = t.val / 16; omega)
  have hk : s'.val % 32 = k.val := by omega
  refine (out3 ..).trans ?_
  simp only [blk0, blk1]
  show _ = context _ _ (eOf t) s' d'
  unfold context
  rw [hb, hk]

/-- An index of the second output's block is its row and its column. -/
theorem ix_block3 (j : S1x32x1024.Idx) : j = ix3 (n0 := 1) (n1 := 32) (n2 := 1024) 0 (j 1) (j 2) := by
  funext k
  match k with
  | 0 => exact Subsingleton.elim (α := Fin 1) _ _
  | 1 => rfl
  | 2 => rfl

/-- The second result's array after the run. -/
theorem final3 (c : Dev nD) : (dats m 0 c).arrAt 3 cfg0.N = arr3 m c := by
  refine (dats m 0 c).arrAt_eq_of_covers 3 _ (by decide +kernel) fun t hf y => ?_
  have e := idx t
  refine (congrFun (after0_3 m c t) y).trans ((congrArg _ (ix_block3 y)).trans
    ((point3 m c t (y 1) (y 2) ⟨t.val % 16, by omega⟩ ⟨t.val / 16 * 32 + (y 1).val, bound3 t (y 1)⟩ (y 2) rfl rfl rfl).trans ?_))
  refine congrArg (arr3 m c) ?_
  blk_ext! [e]

end Cert.GatherIdeal.Slots
-- ==== Proof.GatherRef.lean ====
/-
  What the reference of the gather kernel computes, entry by entry, over the extended reals: it adds every token's row into
  the slot that the token's position names and drops the tokens that name none, so a slot holds what the kernel's holds.
-/
module

public import proofs.«01_k».proof.Proof.GatherArray
public import proofs.«01_k».proof.Proof.Gen.GatherRefIdeal.Read

@[expose] public section

noncomputable section

open Idealize.ShloMosaic Idealize.ShloMosaic.TcCoe Idealize.SL.Sem

namespace Cert.GatherRefIdeal.Slots

open Cert.GatherRefIdeal Cert.GatherRefIdeal.Gen Cert.GatherRefIdeal.Read Idealize.ShloMosaic.StableHlo
open Cert.GatherIdeal.Slots (slot latents context)

/-- One row per token added into an array of `N` slots per sequence and expert, at the token's sequence, expert and slot. -/
abbrev slotDims (N T : ℕ)
    (wf : ScatterDims.WF ⟨4, ![8, 16, N, 1024]⟩ ⟨4, ![8, 16, T, 3]⟩ ⟨4, ![8, 16, T, 1024]⟩ [3] [0, 1, 2] [0, 1, 2] 3) :
    ScatterDims ⟨4, ![8, 16, N, 1024]⟩ ⟨4, ![8, 16, T, 3]⟩ ⟨4, ![8, 16, T, 1024]⟩ where
  updateWindowDims := [3]
  insertedWindowDims := [0, 1, 2]
  scatterDimsToOperandDims := [0, 1, 2]
  indexVectorDim := 3
  wf := wf

section
variable {N T : ℕ}
  (wf : ScatterDims.WF ⟨4, ![8, 16, N, 1024]⟩ ⟨4, ![8, 16, T, 3]⟩ ⟨4, ![8, 16, T, 1024]⟩ [3] [0, 1, 2] [0, 1, 2] 3)
  (q : IVec ⟨4, ![8, 16, T, 3]⟩ 32)

/-- Where a token's entry starts, on each axis. -/
theorem starts (b : Fin 8) (e : Fin 16) (t : Fin T) (d : Fin 1024) :
    (slotDims N T wf).start (ix4 b e t d) q 0 = (q (ix4 b e t 0)).toInt
    ∧ (slotDims N T wf).start (ix4 b e t d) q 1 = (q (ix4 b e t 1)).toInt
    ∧ (slotDims N T wf).start (ix4 b e t d) q 2 = (q (ix4 b e t 2)).toInt
    ∧ (slotDims N T wf).start (ix4 b e t d) q 3 = 0 := by
  refine ⟨?_, ?_, ?_, ?_⟩
  · unfold ScatterDims.start
    rw [dif_pos (show (0 : Fin 4) ∈ (slotDims N T wf).scatterDimsToOperandDims from (by decide : (0 : Fin 4) ∈ [(0 : Fin 4), 1, 2]))]
    congr 2
    funext k; refine Fin.ext ?_
    match k with
    | ⟨0, _⟩ => rfl
    | ⟨1, _⟩ => rfl
    | ⟨2, _⟩ => rfl
    | ⟨3, _⟩ => rfl
  · unfold ScatterDims.start
    rw [dif_pos (show (1 : Fin 4) ∈ (slotDims N T wf).scatterDimsToOperandDims from (by decide : (1 : Fin 4) ∈ [(0 : Fin 4), 1, 2]))]
    congr 2
    funext k; refine Fin.ext ?_
    match k with
    | ⟨0, _⟩ => rfl
    | ⟨1, _⟩ => rfl
    | ⟨2, _⟩ => rfl
    | ⟨3, _⟩ => rfl
  · unfold ScatterDims.start
    rw [dif_pos (show (2 : Fin 4) ∈ (slotDims N T wf).scatterDimsToOperandDims from (by decide : (2 : Fin 4) ∈ [(0 : Fin 4), 1, 2]))]
    congr 2
    funext k; refine Fin.ext ?_
    match k with
    | ⟨0, _⟩ => rfl
    | ⟨1, _⟩ => rfl
    | ⟨2, _⟩ => rfl
    | ⟨3, _⟩ => rfl
  · unfold ScatterDims.start
    rw [dif_neg (show ¬(3 : Fin 4) ∈ (slotDims N T wf).scatterDimsToOperandDims from (by decide : ¬(3 : Fin 4) ∈ [(0 : Fin 4), 1, 2]))]

/-- The column is the only axis along which an entry lies inside its window. -/
theorem windows (b : Fin 8) (e : Fin 16) (t : Fin T) (d : Fin 1024) :
    (slotDims N T wf).window (ix4 b e t d) 0 = 0 ∧ (slotDims N T wf).window (ix4 b e t d) 1 = 0
    ∧ (slotDims N T wf).window (ix4 b e t d) 2 = 0 ∧ (slotDims N T wf).window (ix4 b e t d) 3 = d.val := ⟨rfl, rfl, rfl, rfl⟩

/-- A token's entry is added to an entry of the slots exactly when its three indices and its column are that entry's. -/
theorem lands (b b' : Fin 8) (e e' : Fin 16) (t : Fin T) (k : Fin N) (d d' : Fin 1024) :
    (slotDims N T wf).resultIdx? (ix4 b e t d) q = some (ix4 b' e' k d')
      ↔ (q (ix4 b e t 0)).toInt = b'.val ∧ (q (ix4 b e t 1)).toInt = e'.val ∧ (q (ix4 b e t 2)).toInt = k.val ∧ d = d' := by
  obtain ⟨s0, s1, s2, s3⟩ := starts wf q b e t d
  obtain ⟨w0, w1, w2, w3⟩ := windows wf b e t d
  have hb := b'.isLt; have he := e'.isLt; have hk := k.isLt; have hd := d.isLt
  unfold ScatterDims.resultIdx?
  constructor
  · intro h
    split at h
    · rename_i hin
      have h' := Option.some.inj h
      have c0 := congrArg Fin.val (congrFun h' 0)
      have c1 := congrArg Fin.val (congrFun h' 1)
      have c2 := congrArg Fin.val (congrFun h' 2)
      have c3 := congrArg Fin.val (congrFun h' 3)
      have i0 := hin 0; have i1 := hin 1; have i2 := hin 2
      simp only [s0, s1, s2, s3, w0, w1, w2, w3] at c0 c1 c2 c3 i0 i1 i2
      have c0' : ((q (ix4 b e t 0)).toInt + ((0 : ℕ) : ℤ)).toNat = b'.val := c0
      have c1' : ((q (ix4 b e t 1)).toInt + ((0 : ℕ) : ℤ)).toNat = e'.val := c1
      have c2' : ((q (ix4 b e t 2)).toInt + ((0 : ℕ) : ℤ)).toNat = k.val := c2
      have c3' : ((0 : ℤ) + ((d.val : ℕ) : ℤ)).toNat = d'.val := c3
      exact ⟨by omega, by omega, by omega, Fin.ext (by omega)⟩
    · exact absurd h (by simp)
  · rintro ⟨h0, h1, h2, rfl⟩
    rw [dif_pos]
    · congr 1
      funext a
      refine Fin.ext ?_
      match a with
      | ⟨0, _⟩ => show ((slotDims N T wf).start (ix4 b e t d) q 0 + ((slotDims N T wf).window (ix4 b e t d) 0 : ℕ)).toNat = b'.val
                  rw [s0, w0]; omega
      | ⟨1, _⟩ => show ((slotDims N T wf).start (ix4 b e t d) q 1 + ((slotDims N T wf).window (ix4 b e t d) 1 : ℕ)).toNat = e'.val
                  rw [s1, w1]; omega
      | ⟨2, _⟩ => show ((slotDims N T wf).start (ix4 b e t d) q 2 + ((slotDims N T wf).window (ix4 b e t d) 2 : ℕ)).toNat = k.val
                  rw [s2, w2]; omega
      | ⟨3, _⟩ => show ((slotDims N T wf).start (ix4 b e t d) q 3 + ((slotDims N T wf).window (ix4 b e t d) 3 : ℕ)).toNat = d.val
                  rw [s3, w3]; omega
    · intro a
      match a with
      | ⟨0, _⟩ => show 0 ≤ (slotDims N T wf).start (ix4 b e t d) q 0 + ((slotDims N T wf).window (ix4 b e t d) 0 : ℕ) ∧ (slotDims N T wf).start (ix4 b e t d) q 0 + ((slotDims N T wf).window (ix4 b e t d) 0 : ℕ) < ((8 : ℕ) : ℤ)
                  rw [s0, w0]; omega
      | ⟨1, _⟩ => show 0 ≤ (slotDims N T wf).start (ix4 b e t d) q 1 + ((slotDims N T wf).window (ix4 b e t d) 1 : ℕ) ∧ (slotDims N T wf).start (ix4 b e t d) q 1 + ((slotDims N T wf).window (ix4 b e t d) 1 : ℕ) < ((16 : ℕ) : ℤ)
                  rw [s1, w1]; omega
      | ⟨2, _⟩ => show 0 ≤ (slotDims N T wf).start (ix4 b e t d) q 2 + ((slotDims N T wf).window (ix4 b e t d) 2 : ℕ) ∧ (slotDims N T wf).start (ix4 b e t d) q 2 + ((slotDims N T wf).window (ix4 b e t d) 2 : ℕ) < ((N : ℕ) : ℤ)
                  rw [s2, w2]; omega
      | ⟨3, _⟩ => show 0 ≤ (slotDims N T wf).start (ix4 b e t d) q 3 + ((slotDims N T wf).window (ix4 b e t d) 3 : ℕ) ∧ (slotDims N T wf).start (ix4 b e t d) q 3 + ((slotDims N T wf).window (ix4 b e t d) 3 : ℕ) < ((1024 : ℕ) : ℤ)
                  rw [s3, w3]; omega

/-- Where the first two indices are the token's sequence and expert, a slot gets the sum of the rows of its tokens. -/
theorem scatter_slot (x : FVec Ideal ⟨4, ![8, 16, N, 1024]⟩ .f32) (u : FVec Ideal ⟨4, ![8, 16, T, 1024]⟩ .f32)
    (h0 : ∀ (b : Fin 8) (e : Fin 16) (t : Fin T), (q (ix4 b e t 0)).toInt = b.val)
    (h1 : ∀ (b : Fin 8) (e : Fin 16) (t : Fin T), (q (ix4 b e t 1)).toInt = e.val)
    (b : Fin 8) (e : Fin 16) (k : Fin N) (d : Fin 1024) :
    Host.scatterAdd (F := Ideal) (φ := .f32) (slotDims N T wf) x q u (ix4 b e k d)
      = x (ix4 b e k d) + ∑ t : Fin T, if (q (ix4 b e t 2)).toInt = k.val then u (ix4 b e t d) else 0 := by
  show x (ix4 b e k d) + ∑ j ∈ Finset.univ.filter (fun j => (slotDims N T wf).resultIdx? j q = some (ix4 b e k d)), u j = _
  refine congrArg (x (ix4 b e k d) + ·) ?_
  rw [← Finset.sum_filter]
  symm
  refine Finset.sum_bij (fun t _ => ix4 b e t d) (fun t ht => ?_) (fun t _ t' _ h => ?_) (fun j hj => ?_) (fun _ _ => rfl)
  · refine Finset.mem_filter.mpr ⟨Finset.mem_univ _, (lands wf q b b e e t k d d).mpr ⟨h0 b e t, h1 b e t, (Finset.mem_filter.mp ht).2, rfl⟩⟩
  · exact congrFun h 2
  · have hl := (Finset.mem_filter.mp hj).2
    rw [eq_ix4 j] at hl
    obtain ⟨c0, c1, c2, c3⟩ := (lands wf q (j 0) b (j 1) e (j 2) k (j 3) d).mp hl
    have e0 : j 0 = b := Fin.ext (by have := (h0 (j 0) (j 1) (j 2)).symm.trans c0; exact_mod_cast this)
    have e1 : j 1 = e := Fin.ext (by have := (h1 (j 0) (j 1) (j 2)).symm.trans c1; exact_mod_cast this)
    have hj' : j = ix4 b e (j 2) d := by
      conv_lhs => rw [eq_ix4 j]
      rw [e0, e1, c3]
      rfl
    refine ⟨j 2, Finset.mem_filter.mpr ⟨Finset.mem_univ _, ?_⟩, hj'.symm⟩
    rw [e0, e1] at c2
    exact c2

end

/-- A number that is not negative is read as it is. -/
theorem fixed (n : ℕ) (hn : n < 2 ^ 31) (w : BitVec 32) :
    (Scalar.select (IntOp.cmpi .slt (BitVec.ofNat 32 n) 0#32) w (BitVec.ofNat 32 n)).toInt = n := by
  have e := WordCmp.toInt_ofNat_of_lt (w := 32) hn
  rw [Cert.ScatterRefIdeal.Place.unwrapped _ _ (by rw [e]; omega), e]

/-- A position below `n` is a slot; another is none. -/
theorem clipped (n : ℕ) (hn : n < 2 ^ 31) (p : BitVec 32) (q : BitVec 32) (k : Fin n) :
    (Scalar.select (IntOp.cmpi .slt (Scalar.select (IntOp.andi (IntOp.cmpi .sge p 0#32) (IntOp.cmpi .slt p (BitVec.ofNat 32 n))) p (BitVec.ofNat 32 n)) 0#32)
        q
        (Scalar.select (IntOp.andi (IntOp.cmpi .sge p 0#32) (IntOp.cmpi .slt p (BitVec.ofNat 32 n))) p (BitVec.ofNat 32 n))).toInt = k.val
      ↔ p.toInt = k.val := by
  have hk := k.isLt
  have e := WordCmp.toInt_ofNat_of_lt (w := 32) hn
  have hs : Scalar.select (IntOp.andi (IntOp.cmpi .sge p 0#32) (IntOp.cmpi .slt p (BitVec.ofNat 32 n))) p (BitVec.ofNat 32 n)
      = if 0 ≤ p.toInt ∧ p.toInt < n then p else BitVec.ofNat 32 n := by
    rw [WordCmp.cmpi_sge_eq, WordCmp.cmpi_slt_eq, WordCmp.andi_ofBool, e]
    by_cases h0 : 0 ≤ p.toInt <;> by_cases h1 : p.toInt < (n : ℤ) <;> simp [Scalar.select, h0, h1]
  rw [hs]
  split
  · rename_i h
    rw [Cert.ScatterRefIdeal.Place.unwrapped _ _ h.1]
  · rename_i h
    rw [Cert.ScatterRefIdeal.Place.unwrapped _ _ (by rw [e]; omega), e]
    omega

variable (x0 : Vec Ideal S8x16x2304 .i32) (x1 : FVec Ideal S8x2304x1024 .bf16)

/-- The first index of a latent token's row is its sequence. -/
theorem latent_seq (b : Fin 8) (e : Fin 16) (t : Fin 2048) : (val_main_v36 (F := Ideal) x0 (ix4 b e t 0)).toInt = b.val := by
  pointwise [val_main_v36, val_main_v33, val_main_v31, val_main_v20, val_main_v17, val_main_v3, val_main_v2, val_main_v16, val_main_c_2, val_main_v19, val_main_v18, val_main_c_3, val_main_v34, val_main_v32, val_main_v25, val_main_v22, val_main_v5, val_main_v4, val_main_v21, val_main_c_4, val_main_v24, val_main_v23, val_main_c_5, val_main_v35, val_main_v30, val_main_v27, val_main_v11, val_main_v10, val_main_v7, val_main_v0, val_main_v6, val_main_c, val_main_v9, val_main_v8, val_main_c_0, val_main_call0_v1, val_main_call0_v0, val_main_c_1, val_main_v26, val_main_c_6, val_main_v29, val_main_v28, val_main_c_7]
  exact fixed b.val (by omega) _

/-- The second is the expert. -/
theorem latent_expert (b : Fin 8) (e : Fin 16) (t : Fin 2048) : (val_main_v36 (F := Ideal) x0 (ix4 b e t 1)).toInt = e.val := by
  pointwise [val_main_v36, val_main_v33, val_main_v31, val_main_v20, val_main_v17, val_main_v3, val_main_v2, val_main_v16, val_main_c_2, val_main_v19, val_main_v18, val_main_c_3, val_main_v34, val_main_v32, val_main_v25, val_main_v22, val_main_v5, val_main_v4, val_main_v21, val_main_c_4, val_main_v24, val_main_v23, val_main_c_5, val_main_v35, val_main_v30, val_main_v27, val_main_v11, val_main_v10, val_main_v7, val_main_v0, val_main_v6, val_main_c, val_main_v9, val_main_v8, val_main_c_0, val_main_call0_v1, val_main_call0_v0, val_main_c_1, val_main_v26, val_main_c_6, val_main_v29, val_main_v28, val_main_c_7]
  exact fixed e.val (by omega) _

/-- The third is slot `k` exactly when the token's position is. -/
theorem latent_slot (b : Fin 8) (e : Fin 16) (t : Fin 2048) (k : Fin 256) :
    (val_main_v36 (F := Ideal) x0 (ix4 b e t 2)).toInt = k.val ↔ (x0 (ix3 b e ⟨256 + t.val, by omega⟩)).toInt = k.val := by
  pointwise [val_main_v36, val_main_v33, val_main_v31, val_main_v20, val_main_v17, val_main_v3, val_main_v2, val_main_v16, val_main_c_2, val_main_v19, val_main_v18, val_main_c_3, val_main_v34, val_main_v32, val_main_v25, val_main_v22, val_main_v5, val_main_v4, val_main_v21, val_main_c_4, val_main_v24, val_main_v23, val_main_c_5, val_main_v35, val_main_v30, val_main_v27, val_main_v11, val_main_v10, val_main_v7, val_main_v0, val_main_v6, val_main_c, val_main_v9, val_main_v8, val_main_c_0, val_main_call0_v1, val_main_call0_v0, val_main_c_1, val_main_v26, val_main_c_6, val_main_v29, val_main_v28, val_main_c_7]
  exact clipped 256 (by norm_num) (x0 (ix3 b e ⟨256 + t.val, by omega⟩)) _ k

/-- The latent tokens' slots as the reference fills them. -/
theorem latent_filled (b : Fin 8) (e : Fin 16) (k : Fin 256) (d : Fin 1024) :
    val_main_v37 (F := Ideal) x0 x1 (ix4 b e k d)
      = slot (fun t : Fin 2048 => x0 (ix3 b e ⟨256 + t.val, by omega⟩)) (fun t => x1 (ix3 b ⟨256 + t.val, by omega⟩ d)) k.val := by
  refine (scatter_slot Cert.GatherRefIdeal.Gen.facts.toFacts₀.scatter_S8x16x256x1024_S8x16x2048x3_S8x16x2048x1024_3_012_012_3_wf _ _ _ (latent_seq x0) (latent_expert x0) b e k d).trans ?_
  unfold slot
  have hz : val_main_v15 (F := Ideal) (ix4 b e k d) = 0 := by
    pointwise [val_main_v15, val_main_cst]
  rw [hz, zero_add]
  refine Finset.sum_congr rfl fun t _ => ?_
  have hu : val_main_v14 (F := Ideal) x1 (ix4 b e t d) = x1 (ix3 b ⟨256 + t.val, by omega⟩ d) := by
    pointwise [val_main_v14, val_main_v13, val_main_v12, val_main_v1]
  rw [hu]
  simp only [latent_slot x0 b e t k]

/-- The reference's first result. -/
theorem res_latent (i : S16x2048x1024.Idx) : val_main_v40 (F := Ideal) x0 x1 i = latents x0 x1 (i 0) (i 1) (i 2) := by
  unfold latents
  refine Eq.trans ?_ (latent_filled x0 x1 ⟨(i 1).val / 256, by have := (i 1).isLt; simp at this; omega⟩ (i 0) ⟨(i 1).val % 256, by omega⟩ (i 2))
  pointwise [val_main_v40, val_main_v39, val_main_v38]

/-- The first index of a context token's row is its sequence. -/
theorem context_seq (b : Fin 8) (e : Fin 16) (t : Fin 256) : (val_main_v77 (F := Ideal) x0 (ix4 b e t 0)).toInt = b.val := by
  pointwise [val_main_v77, val_main_v74, val_main_v72, val_main_v61, val_main_v58, val_main_v44, val_main_v43, val_main_v57, val_main_c_12, val_main_v60, val_main_v59, val_main_c_13, val_main_v75, val_main_v73, val_main_v66, val_main_v63, val_main_v46, val_main_v45, val_main_v62, val_main_c_14, val_main_v65, val_main_v64, val_main_c_15, val_main_v76, val_main_v71, val_main_v68, val_main_v52, val_main_v51, val_main_v48, val_main_v41, val_main_v47, val_main_c_8, val_main_v50, val_main_v49, val_main_c_9, val_main_call1_v1, val_main_call1_v0, val_main_c_10, val_main_v67, val_main_c_16, val_main_v70, val_main_v69, val_main_c_17]
  exact fixed b.val (by omega) _

/-- The second is the expert. -/
theorem context_expert (b : Fin 8) (e : Fin 16) (t : Fin 256) : (val_main_v77 (F := Ideal) x0 (ix4 b e t 1)).toInt = e.val := by
  pointwise [val_main_v77, val_main_v74, val_main_v72, val_main_v61, val_main_v58, val_main_v44, val_main_v43, val_main_v57, val_main_c_12, val_main_v60, val_main_v59, val_main_c_13, val_main_v75, val_main_v73, val_main_v66, val_main_v63, val_main_v46, val_main_v45, val_main_v62, val_main_c_14, val_main_v65, val_main_v64, val_main_c_15, val_main_v76, val_main_v71, val_main_v68, val_main_v52, val_main_v51, val_main_v48, val_main_v41, val_main_v47, val_main_c_8, val_main_v50, val_main_v49, val_main_c_9, val_main_call1_v1, val_main_call1_v0, val_main_c_10, val_main_v67, val_main_c_16, val_main_v70, val_main_v69, val_main_c_17]
  exact fixed e.val (by omega) _

/-- The third is slot `k` exactly when the token's position is. -/
theorem context_slot (b : Fin 8) (e : Fin 16) (t : Fin 256) (k : Fin 32) :
    (val_main_v77 (F := Ideal) x0 (ix4 b e t 2)).toInt = k.val ↔ (x0 (ix3 b e ⟨t.val, by omega⟩)).toInt = k.val := by
  pointwise [val_main_v77, val_main_v74, val_main_v72, val_main_v61, val_main_v58, val_main_v44, val_main_v43, val_main_v57, val_main_c_12, val_main_v60, val_main_v59, val_main_c_13, val_main_v75, val_main_v73, val_main_v66, val_main_v63, val_main_v46, val_main_v45, val_main_v62, val_main_c_14, val_main_v65, val_main_v64, val_main_c_15, val_main_v76, val_main_v71, val_main_v68, val_main_v52, val_main_v51, val_main_v48, val_main_v41, val_main_v47, val_main_c_8, val_main_v50, val_main_v49, val_main_c_9, val_main_call1_v1, val_main_call1_v0, val_main_c_10, val_main_v67, val_main_c_16, val_main_v70, val_main_v69, val_main_c_17]
  exact clipped 32 (by norm_num) (x0 (ix3 b e ⟨t.val, by omega⟩)) _ k

/-- The context tokens' slots as the reference fills them. -/
theorem context_filled (b : Fin 8) (e : Fin 16) (k : Fin 32) (d : Fin 1024) :
    val_main_v78 (F := Ideal) x0 x1 (ix4 b e k d)
      = slot (fun t : Fin 256 => x0 (ix3 b e ⟨t.val, by omega⟩)) (fun t => x1 (ix3 b ⟨t.val, by omega⟩ d)) k.val := by
  refine (scatter_slot Cert.GatherRefIdeal.Gen.facts.toFacts₀.scatter_S8x16x32x1024_S8x16x256x3_S8x16x256x1024_3_012_012_3_wf _ _ _ (context_seq x0) (context_expert x0) b e k d).trans ?_
  unfold slot
  have hz : val_main_v56 (F := Ideal) (ix4 b e k d) = 0 := by
    pointwise [val_main_v56, val_main_cst_11]
  rw [hz, zero_add]
  refine Finset.sum_congr rfl fun t _ => ?_
  have hu : val_main_v55 (F := Ideal) x1 (ix4 b e t d) = x1 (ix3 b ⟨t.val, by omega⟩ d) := by
    pointwise [val_main_v55, val_main_v54, val_main_v53, val_main_v42]
  rw [hu]
  simp only [context_slot x0 b e t k]

/-- The reference's second result. -/
theorem res_context (i : S16x256x1024.Idx) : val_main_v81 (F := Ideal) x0 x1 i = context x0 x1 (i 0) (i 1) (i 2) := by
  unfold context
  refine Eq.trans ?_ (context_filled x0 x1 ⟨(i 1).val / 32, by have := (i 1).isLt; simp at this; omega⟩ (i 0) ⟨(i 1).val % 32, by omega⟩ (i 2))
  pointwise [val_main_v81, val_main_v80, val_main_v79]

end Cert.GatherRefIdeal.Slots
-- ==== Proof.GatherClaim.lean ====
/-
  The claims of the gather kernel: it runs and leaves its arguments as they are, and its two results are the reference's.
-/
module

public import proofs.«01_k».proof.Defs
public import proofs.«01_k».proof.Proof.GatherRef
public import proofs.«01_k».proof.Proof.Gen.GatherRefIdeal.Run
public import proofs.«01_k».proof.Proof.Gen.Gather.Frame
public import Idealize.ShloMosaic.Adequacy
public import Idealize.ShloMosaic.Init

@[expose] public section

noncomputable section

open Idealize.ShloMosaic Idealize.ShloMosaic.TcCoe Idealize.SL.Sem

namespace Cert.Proof.Gather

open Cert.GatherIdeal.Slots (arr2 arr3 final2 final3)
open Cert.GatherRefIdeal.Slots (res_latent res_context)

/-- The kernel as it is runs and leaves its arguments as they are. -/
theorem frame : Cert.quiescent_Gather := fun m ρ _ => Cert.Gather.Gen.frame m ρ

/-- So does the kernel read over the extended reals. -/
theorem frame_ideal : Cert.quiescent_GatherIdeal := fun m ρ _ => Cert.GatherIdeal.Gen.frame m ρ

/-- So does the reference. -/
theorem frame_ref : Cert.quiescent_GatherRefIdeal := fun m ρ _ =>
  (θ_run Cert.GatherRefIdeal.defs _ _).mono (fun r h => ⟨fun c => (h c).2.2, sem_eq_zero_of_no_sems (by decide) r.2⟩)
    (Cert.GatherRefIdeal.Value.run (F := Ideal) m ρ)

/-- The reading over the extended reals keeps the kernel's operations. -/
theorem preserves : Cert.preserves_Gather_GatherIdeal := trivial

/-- Over the extended reals the kernel's two results are the reference's. -/
theorem algebraic : Cert.algebraic_GatherIdeal_GatherRefIdeal := by
  intro m ρ m' ρ' _ hagree
  refine ⟨arr2 m, arr3 m, (θ_run Cert.GatherIdeal.defs _ _).mono
    (fun r h c => ⟨(h c).1.trans (final2 m c), (h c).2.1.trans (final3 m c), (h c).2.2⟩) (Cert.GatherIdeal.Value.run_blocks m ρ), ?_⟩
  refine (θ_run Cert.GatherRefIdeal.defs _ _).mono (fun r h c => ?_) (Cert.GatherRefIdeal.Value.run (F := Ideal) m' ρ')
  obtain ⟨h0, h1, hk⟩ := h c
  obtain ⟨a0, a1⟩ := hagree c
  refine ⟨(h0.trans (Cert.GatherRefIdeal.Read.val_main_v40_eq ..)).trans ?_, (h1.trans (Cert.GatherRefIdeal.Read.val_main_v81_eq ..)).trans ?_, hk⟩
  all_goals simp only [a0, a1]; funext i
  · exact res_latent _ _ i
  · exact res_context _ _ i

end Cert.Proof.Gather
-- ==== Proof.Finite.lean ====
/-
  Finite numbers among the extended reals, and which operations keep them finite. A kernel that splits a number into a
  rounded part and the rest of it leaves, over the extended reals, a rest `x - x`; it is zero where `x` is finite.
-/
module

public import proofs.«01_k».proof.Proof.GatherClaim

@[expose] public section

noncomputable section

open Idealize.ShloMosaic Idealize.ShloMosaic.TcCoe Idealize.SL.Sem

namespace Cert.Layer

/-- A finite extended real: a real number. -/
def Finite (x : EReal) : Prop := ∃ r : ℝ, x = (r : EReal)

namespace Finite

variable {x y : EReal}

/-- Its rest over itself is zero. -/
theorem rest (h : Finite x) : x - x = 0 := by
  obtain ⟨r, rfl⟩ := h
  rw [← EReal.coe_sub, sub_self, EReal.coe_zero]

/-- A sum of two finite numbers is finite. -/
theorem add (hx : Finite x) (hy : Finite y) : Finite (x + y) := by
  obtain ⟨r, rfl⟩ := hx
  obtain ⟨s, rfl⟩ := hy
  exact ⟨r + s, (EReal.coe_add r s).symm⟩

/-- So is their product. -/
theorem mul (hx : Finite x) (hy : Finite y) : Finite (x * y) := by
  obtain ⟨r, rfl⟩ := hx
  obtain ⟨s, rfl⟩ := hy
  exact ⟨r * s, (EReal.coe_mul r s).symm⟩

/-- So is one plus a finite number. -/
theorem one_add (hx : Finite x) : Finite (1 + x) := add ⟨1, EReal.coe_one.symm⟩ hx

/-- So is a sum of finitely many finite numbers. -/
theorem sum {n : ℕ} {f : Fin n → EReal} (h : ∀ i, Finite (f i)) : Finite (∑ i, f i) :=
  Finset.sum_induction f Finite (fun _ _ => add) ⟨0, EReal.coe_zero.symm⟩ fun i _ => h i

/-- So is the logistic function of a finite number. -/
theorem gate (hx : Finite x) : Finite (gateOf x) := by
  obtain ⟨r, rfl⟩ := hx
  have hp : (1 : ℝ) + Real.exp (-r) ≠ 0 := by positivity
  refine ⟨1 * ((1 : ℝ) + Real.exp (-r))⁻¹, ?_⟩
  unfold gateOf Ideal.div
  have he : (1 : EReal) + Ideal.exp (-(r : EReal)) = (((1 : ℝ) + Real.exp (-r) : ℝ) : EReal) := by
    rw [← EReal.coe_neg, EReal.coe_add, EReal.coe_one]; rfl
  rw [he, if_neg (by exact_mod_cast hp), EReal.coe_mul, EReal.coe_inv, EReal.coe_one]

/-- The inverse root of a positive number is finite. -/
theorem rsqrt {r : ℝ} (h : 0 < r) : Finite (Ideal.rsqrt (r : EReal)) := by
  show Finite (if r < 0 then ⊥ else if r = 0 then ⊤ else (((Real.sqrt r)⁻¹ : ℝ) : EReal))
  rw [if_neg (not_lt.mpr h.le), if_neg h.ne']
  exact ⟨_, rfl⟩

/-- The sum of the squares of finite numbers is a real number that is not negative. -/
theorem squares {n : ℕ} {f : Fin n → EReal} (h : ∀ i, Finite (f i)) : ∃ r : ℝ, 0 ≤ r ∧ ∑ i, f i * f i = (r : EReal) :=
  Finset.sum_induction (fun i => f i * f i) (fun y => ∃ r : ℝ, 0 ≤ r ∧ y = (r : EReal))
    (fun _ _ ⟨r, hr, e⟩ ⟨s, hs, e'⟩ => ⟨r + s, add_nonneg hr hs, by rw [e, e', EReal.coe_add]⟩)
    ⟨0, le_refl 0, EReal.coe_zero.symm⟩ fun i _ => by
      obtain ⟨r, e⟩ := h i
      exact ⟨r * r, mul_self_nonneg r, by rw [e, EReal.coe_mul]⟩

/-- The word of the row's length. -/
theorem len : Ideal.ofBits .f32 0x44800000#32 = ((1024 : ℝ) : EReal) := by
  simp [Ideal.ofBits, Ideal.ieee, -EReal.coe_mul]; norm_num

/-- The word of the norm's small constant is positive. -/
theorem eps : ∃ r : ℝ, 0 < r ∧ Ideal.ofBits .f32 0x358637BD#32 = (r : EReal) := by
  refine ⟨8796093 * (2 : ℝ) ^ (-43 : ℤ), by positivity, ?_⟩
  simp [Ideal.ofBits, Ideal.ieee]

/-- The sum of the squares of a row that holds an infinite entry is infinite. -/
theorem squares_top {n : ℕ} {f : Fin n → EReal} (h : ¬ ∀ i, Finite (f i)) : ∑ i, f i * f i = ⊤ := by
  obtain ⟨i, hi⟩ := not_forall.mp h
  have hn : ∀ j, 0 ≤ f j * f j := fun j => by
    induction f j with
    | bot => simp
    | top => simp
    | coe r => rw [← EReal.coe_mul]; exact_mod_cast mul_self_nonneg r
  have ht : f i * f i = ⊤ := by
    revert hi
    induction f i with
    | bot => intro _; simp
    | top => intro _; simp
    | coe r => intro hi; exact absurd ⟨r, rfl⟩ hi
  exact top_le_iff.mp (ht ▸ Finset.single_le_sum (f := fun j => f j * f j) (fun j _ => hn j) (Finset.mem_univ i))

/-- The modulated norm of a row is finite where its gain, shift and scale are: an infinite row is normed to zero. -/
theorem normed (x : Fin 1024 → EReal) {g b s : Fin 1024 → EReal} (hg : ∀ i, Finite (g i)) (hb : ∀ i, Finite (b i))
    (hs : ∀ i, Finite (s i)) (d : Fin 1024) : Finite (Cert.Layer.normed x g b s d) := by
  obtain ⟨z, hz, e'⟩ := eps
  unfold Cert.Layer.normed
  refine add (mul (mul ?_ (hg d)) (one_add (hs d))) (hb d)
  by_cases hx : ∀ i, Finite (x i)
  · obtain ⟨q, hq, e⟩ := squares hx
    have hd : Ideal.div (q : EReal) ((1024 : ℝ) : EReal) = ((q * (1024 : ℝ)⁻¹ : ℝ) : EReal) := by
      unfold Ideal.div
      rw [if_neg (by exact_mod_cast (by norm_num : (1024 : ℝ) ≠ 0)), EReal.coe_mul, EReal.coe_inv]
    refine mul (hx d) ?_
    rw [e, e', len, hd, ← EReal.coe_add]
    exact rsqrt (by positivity)
  · have hd : Ideal.div ⊤ ((1024 : ℝ) : EReal) = ⊤ := by
      unfold Ideal.div
      rw [if_neg (by exact_mod_cast (by norm_num : (1024 : ℝ) ≠ 0)), ← EReal.coe_inv]
      exact EReal.top_mul_coe_of_pos (by norm_num)
    have hr : Ideal.rsqrt ⊤ = 0 := rfl
    rw [squares_top hx, e', len, hd, EReal.top_add_coe, hr, mul_zero]
    exact ⟨0, EReal.coe_zero.symm⟩

/-- A number less than the word of positive infinity is not positive infinity. -/
theorem ne_top_of_lt (x : Ideal .f32) (h : FloatOps.cmpf .olt x (FloatOps.ofBits (F := Ideal) .f32 0x7F800000#32) = 1#1) :
    (x : EReal) ≠ ⊤ := by
  have htop : Ideal.ofBits .f32 0x7F800000#32 = ⊤ := by simp [Ideal.ofBits, Ideal.ieee]
  have h' : Ideal.cmp .olt (x : EReal) (Ideal.ofBits .f32 0x7F800000#32) = 1#1 := h
  rw [htop] at h'
  unfold Ideal.cmp at h'
  by_contra hn
  simp [hn] at h'

/-- A number whose absolute value is less than the word of positive infinity is finite. -/
theorem of_lt (x : Ideal .f32)
    (h : FloatOps.cmpf .olt (FloatOps.hostAbsf x) (FloatOps.ofBits (F := Ideal) .f32 0x7F800000#32) = 1#1) : Finite x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  have hbot : (x : EReal) ≠ ⊥ := fun hb => by rw [hb] at hlt; simp at hlt
  exact ⟨(x : EReal).toReal, (EReal.coe_toReal hlt.1.ne hbot).symm⟩

end Finite

/-- A row against a column in three products, of the numbers and of their rests, is the row against the column. -/
theorem split {n : ℕ} {a w : Fin n → EReal} (ha : ∀ i, Finite (a i)) (hw : ∀ i, Finite (w i)) :
    ∑ i, a i * w i + ∑ i, (a i - a i) * w i + ∑ i, a i * (w i - w i) = ∑ i, a i * w i := by
  have e1 : ∑ i, (a i - a i) * w i = 0 := Finset.sum_eq_zero fun i _ => by rw [(ha i).rest, zero_mul]
  have e2 : ∑ i, a i * (w i - w i) = 0 := Finset.sum_eq_zero fun i _ => by rw [(hw i).rest, mul_zero]
  rw [e1, e2, add_zero, add_zero]

end Cert.Layer
-- ==== Proof.AdaBlock.lean ====
/-
  What one grid point of the modulation kernel computes, over the extended reals. A point is one layer and a run of 1536
  columns: it passes the conditioning rows through silu and multiplies them with the layer's columns in three products, of
  the numbers and of their rests, and adds the bias.
-/
module

public import proofs.«01_k».proof.Proof.Finite
public import proofs.«01_k».proof.Proof.Gen.AdaIdeal.Value
public import Idealize.ShloMosaic.Lib.Pipeline.ValueKit.Point

@[expose] public section

noncomputable section

open Idealize.ShloMosaic Idealize.ShloMosaic.TcCoe Idealize.SL.Sem

namespace Cert.AdaIdeal.Modul

open Cert.AdaIdeal Cert.AdaIdeal.Gen
open Cert.Layer (gateOf Finite)

/-- Silu: a number times its logistic function. -/
def silu (x : EReal) : EReal := x * gateOf x

/-- Silu of a number that is not positive infinity is finite: negative infinity is sent to zero. -/
theorem silu_finite {x : EReal} (h : x ≠ ⊤) : Finite (silu x) := by
  induction x with
  | bot =>
    have hg : gateOf ⊥ = 0 := by
      have he : Ideal.exp ⊤ = ⊤ := rfl
      have e1 : (1 : EReal) + ⊤ = ⊤ := EReal.coe_add_top 1
      unfold gateOf Ideal.div
      simp [he, e1]
    unfold silu
    rw [hg, mul_zero]
    exact ⟨0, EReal.coe_zero.symm⟩
  | top => exact absurd rfl h
  | coe r => exact Finite.mul ⟨r, rfl⟩ (Finite.gate ⟨r, rfl⟩)

variable (x0 : FVec Ideal S16x1024 .f32) (x1 : FVec Ideal S1x1024x1536 .f32) (x2 : FVec Ideal S1x1x1536 .f32)

/-- What the body stores. -/
theorem out3 (r : Fin 16) (d : Fin 1536) :
    out0_3 (F := Ideal) x0 x1 x2 (ix3 0 r d)
      = ∑ k : Fin 1024, silu (x0 (ix2 r k)) * x1 (ix3 0 k d)
          + ∑ k : Fin 1024, (silu (x0 (ix2 r k)) - silu (x0 (ix2 r k))) * x1 (ix3 0 k d)
          + ∑ k : Fin 1024, silu (x0 (ix2 r k)) * (x1 (ix3 0 k d) - x1 (ix3 0 k d))
          + x2 (ix3 0 0 d) := by
  unfold out0_3; frame_out
  unfold_payloads; unfold silu gateOf; pointwise
  simp only [zero_sub]

/-- On finite weights, and rows without positive infinity, it is the row against the column and the bias. -/
theorem out3_finite (h0 : ∀ i, x0 i ≠ (⊤ : EReal)) (h1 : ∀ i, Finite (x1 i)) (r : Fin 16) (d : Fin 1536) :
    out0_3 (F := Ideal) x0 x1 x2 (ix3 0 r d) = ∑ k : Fin 1024, silu (x0 (ix2 r k)) * x1 (ix3 0 k d) + x2 (ix3 0 0 d) := by
  rw [out3, Cert.Layer.split (fun k => silu_finite (h0 _)) (fun k => h1 _)]

end Cert.AdaIdeal.Modul
-- ==== Proof.AdaArray.lean ====
/-
  What the modulation kernel's result array holds where the conditioning rows hold no positive infinity and the weights are
  finite: for every layer silu of the conditioning rows against the layer's weights, and the bias.
-/
module

public import proofs.«01_k».proof.Proof.AdaBlock

@[expose] public section

noncomputable section

open Idealize.ShloMosaic Idealize.ShloMosaic.TcCoe Idealize.SL.Sem

namespace Cert.AdaIdeal.Modul

open Cert.AdaIdeal Cert.AdaIdeal.Gen
open Cert.Layer (gateOf Finite)

/-- The modulation of layer `l` for conditioning row `r`, column `d`. -/
def modul (x : FVec Ideal S16x1024 .f32) (w : FVec Ideal S4x1024x6144 .f32) (b : FVec Ideal S4x6144 .f32) (l : Fin 4) (r : Fin 16)
    (d : Fin 6144) : EReal :=
  ∑ k : Fin 1024, silu (x (ix2 r k)) * w (ix3 l k d) + b (ix2 l d)

/-- Which blocks a grid point reads and writes: the layer is the point's number over four, the run of columns its
    remainder. -/
theorem idx : ∀ t : Fin cfg0.N,
    (win0_0.index t (0 : Fin 2) = 0 ∧ win0_0.index t (1 : Fin 2) = 0)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = 0 ∧ win0_3.index t (2 : Fin 3) = t.val % 4) :=
  (by decide +kernel : ∀ t : Fin grid0.N, _)

variable (m : (ℓ : Loc nD τ sig) → Buf (Elt Ideal) ℓ)

/-- The layer of a point. -/
def lOf (t : Fin cfg0.N) : Fin 4 := ⟨t.val / 4, by have := t.isLt; have e : cfg0.N = 16 := rfl; omega⟩

/-- The column of the array that is a point's column `d`. -/
def dOf (t : Fin cfg0.N) (d : Fin 1536) : Fin 6144 := ⟨t.val % 4 * 1536 + d.val, by omega⟩

/-- The conditioning rows. -/
theorem blk0 (c : Dev nD) (t : Fin cfg0.N) (r : Fin 16) (k : Fin 1024) : (iblk m c 0 t : FVec Ideal S16x1024 .f32) (ix2 r k)
    = (m ((c : Thread nD τ).loc main_arg0) : FVec Ideal S16x1024 .f32) (ix2 r k) := by
  have e := idx t
  blk_ext! [iblk, V, e]

/-- The layer's weights. -/
theorem blk1 (c : Dev nD) (t : Fin cfg0.N) (k : Fin 1024) (d : Fin 1536) : (iblk m c 1 t : FVec Ideal S1x1024x1536 .f32) (ix3 0 k d)
    = (m ((c : Thread nD τ).loc main_arg1) : FVec Ideal S4x1024x6144 .f32) (ix3 (lOf t) k (dOf t d)) := by
  have e := idx t
  have hl : (lOf t).val = t.val / 4 := rfl
  have hd : (dOf t d).val = t.val % 4 * 1536 + d.val := rfl
  blk_ext! [iblk, V, e, hl, hd]

/-- The layer's bias. -/
theorem blk2 (c : Dev nD) (t : Fin cfg0.N) (d : Fin 1536) : (iblk m c 2 t : FVec Ideal S1x1x1536 .f32) (ix3 0 0 d)
    = (m ((c : Thread nD τ).loc main_arg2) : FVec Ideal S4x6144 .f32) (ix2 (lOf t) (dOf t d)) := by
  have e := idx t
  have hl : (lOf t).val = t.val / 4 := rfl
  have hd : (dOf t d).val = t.val % 4 * 1536 + d.val := rfl
  blk_ext! [iblk, V, e, hl, hd]

/-- The conditioning rows hold no positive infinity and the weights are finite. -/
def Fin3 (c : Dev nD) : Prop :=
  (∀ i, (m ((c : Thread nD τ).loc main_arg0) : FVec Ideal S16x1024 .f32) i ≠ (⊤ : EReal))
    ∧ ∀ i, Finite ((m ((c : Thread nD τ).loc main_arg1) : FVec Ideal S4x1024x6144 .f32) i)

/-- The result array. -/
def arr (c : Dev nD) : Buf (Elt Ideal) ((c : Thread nD τ).loc main_v1) := fun i : S4x16x6144.Idx =>
  modul (m ((c : Thread nD τ).loc main_arg0)) (m ((c : Thread nD τ).loc main_arg1)) (m ((c : Thread nD τ).loc main_arg2)) (i 0) (i 1) (i 2)

/-- A weight block's index is its row and its column. -/
theorem ix_w (j : S1x1024x1536.Idx) : j = ix3 (n0 := 1) (n1 := 1024) (n2 := 1536) 0 (j 1) (j 2) := by
  funext k
  match k with
  | 0 => exact Subsingleton.elim (α := Fin 1) _ _
  | 1 => rfl
  | 2 => rfl

/-- An index of a block of the result is its row and its column. -/
theorem ix_block (j : S1x16x1536.Idx) : j = ix3 (n0 := 1) (n1 := 16) (n2 := 1536) 0 (j 1) (j 2) := by
  funext k
  match k with
  | 0 => exact Subsingleton.elim (α := Fin 1) _ _
  | 1 => rfl
  | 2 => rfl

/-- What a point writes. -/
theorem point (c : Dev nD) (hf : Fin3 m c) (t : Fin cfg0.N) (r : Fin 16) (d : Fin 1536) (l' : Fin 4) (r' : Fin 16) (d' : Fin 6144)
    (hl : l'.val = t.val / 4) (hr : r'.val = r.val) (hd : d'.val = t.val % 4 * 1536 + d.val) :
    out0_3 (F := Ideal) (iblk m c 0 t) (iblk m c 1 t) (iblk m c 2 t) (ix3 0 r d) = arr m c (ix3 l' r' d') := by
  obtain rfl : l' = lOf t := Fin.ext hl
  obtain rfl : r' = r := Fin.ext hr
  obtain rfl : d' = dOf t d := Fin.ext hd
  refine (out3_finite _ _ _ (fun i => ?_) (fun i => ?_) _ _).trans ?_
  · obtain ⟨r, k, rfl⟩ : ∃ (r : Fin 16) (k : Fin 1024), i = ix2 r k := ⟨i 0, i 1, eq_ix2 i⟩
    rw [blk0]; exact hf.1 _
  · obtain ⟨k, q, rfl⟩ : ∃ (k : Fin 1024) (q : Fin 1536), i = ix3 0 k q := ⟨i 1, i 2, ix_w i⟩
    rw [blk1]; exact hf.2 _
  · simp only [blk0, blk1, blk2]; rfl

/-- The result's array after the run. -/
theorem final (c : Dev nD) (hf : Fin3 m c) : (dats m 0 c).arrAt 3 cfg0.N = arr m c := by
  refine (dats m 0 c).arrAt_eq_of_covers 3 _ (by decide +kernel) fun t _ y => ?_
  have e := idx t
  refine (congrFun (after0_3 m c t) y).trans ((congrArg _ (ix_block y)).trans
    ((point m c hf t (y 1) (y 2) (lOf t) (y 1) (dOf t (y 2)) rfl rfl rfl).trans ?_))
  refine congrArg (arr m c) ?_
  have hl : (lOf t).val = t.val / 4 := rfl
  have hd : (dOf t (y 2)).val = t.val % 4 * 1536 + (y 2).val := rfl
  blk_ext! [e, hl, hd]

end Cert.AdaIdeal.Modul
-- ==== Proof.AdaRef.lean ====
/-
  What the reference of the modulation kernel computes, entry by entry, over the extended reals: for every layer silu of
  the conditioning rows against the layer's weights, and the bias.
-/
module

public import proofs.«01_k».proof.Proof.AdaArray
public import proofs.«01_k».proof.Proof.Gen.AdaRefIdeal.Read

@[expose] public section

noncomputable section

open Idealize.ShloMosaic Idealize.ShloMosaic.TcCoe Idealize.SL.Sem

namespace Cert.AdaRefIdeal.Modul

open Cert.AdaRefIdeal Cert.AdaRefIdeal.Gen Cert.AdaRefIdeal.Read Idealize.ShloMosaic.StableHlo
open Cert.AdaIdeal.Modul (silu modul)
open Cert.Layer (gateOf)

variable (x0 : FVec Ideal S16x1024 .f32) (x1 : FVec Ideal S4x1024x6144 .f32) (x2 : FVec Ideal S4x6144 .f32)

/-- The modulation written as a choice among the four layers. -/
theorem choice (l : Fin 4) (r : Fin 16) (d : Fin 6144) :
    modul x0 x1 x2 l r d = if _h : l.val < 1 then modul x0 x1 x2 0 r d else if _h : l.val - 1 < 1 then modul x0 x1 x2 1 r d
      else if _h : l.val - 1 - 1 < 1 then modul x0 x1 x2 2 r d else modul x0 x1 x2 3 r d := by
  match l with
  | 0 => rfl
  | 1 => rfl
  | 2 => rfl
  | 3 => rfl

/-- The result at an entry. -/
theorem res_at (l : Fin 4) (r : Fin 16) (d : Fin 6144) : val_main_v40 (F := Ideal) x0 x1 x2 (ix3 l r d) = modul x0 x1 x2 l r d := by
  rw [choice]
  unfold modul silu gateOf
  pointwise [val_main_v40, val_main_v36, val_main_v8, val_main_v3, val_main_v0, val_main_call0_v5, val_main_call0_v4, val_main_call0_cst_0, val_main_call0_v3, val_main_call0_v2, val_main_call0_cst, val_main_call0_v1, val_main_call0_v0, val_main_v2, val_main_v1, val_main_v7, val_main_v6, val_main_v5, val_main_v4, val_main_v37, val_main_v17, val_main_v12, val_main_v9, val_main_call1_v5, val_main_call1_v4, val_main_call1_cst_0, val_main_call1_v3, val_main_call1_v2, val_main_call1_cst, val_main_call1_v1, val_main_call1_v0, val_main_v11, val_main_v10, val_main_v16, val_main_v15, val_main_v14, val_main_v13, val_main_v38, val_main_v26, val_main_v21, val_main_v18, val_main_call2_v5, val_main_call2_v4, val_main_call2_cst_0, val_main_call2_v3, val_main_call2_v2, val_main_call2_cst, val_main_call2_v1, val_main_call2_v0, val_main_v20, val_main_v19, val_main_v25, val_main_v24, val_main_v23, val_main_v22, val_main_v39, val_main_v35, val_main_v30, val_main_v27, val_main_call3_v5, val_main_call3_v4, val_main_call3_cst_0, val_main_call3_v3, val_main_call3_v2, val_main_call3_cst, val_main_call3_v1, val_main_call3_v0, val_main_v29, val_main_v28, val_main_v34, val_main_v33, val_main_v32, val_main_v31]

/-- The result. -/
theorem res (i : S4x16x6144.Idx) : val_main_v40 (F := Ideal) x0 x1 x2 i = modul x0 x1 x2 (i 0) (i 1) (i 2) :=
  (congrArg _ (eq_ix3 i)).trans (res_at x0 x1 x2 (i 0) (i 1) (i 2))

end Cert.AdaRefIdeal.Modul
-- ==== Proof.AdaClaim.lean ====
/-
  The claims of the modulation kernel: it runs and leaves its arguments as they are, and where the conditioning rows
  hold no positive infinity and the weights are finite its result is the reference's.
-/
module

public import proofs.«01_k».proof.Defs
public import proofs.«01_k».proof.Proof.AdaRef
public import proofs.«01_k».proof.Proof.Gen.AdaRefIdeal.Run
public import proofs.«01_k».proof.Proof.Gen.Ada.Frame
public import Idealize.ShloMosaic.Adequacy
public import Idealize.ShloMosaic.Init

@[expose] public section

noncomputable section

open Idealize.ShloMosaic Idealize.ShloMosaic.TcCoe Idealize.SL.Sem

namespace Cert.Proof.Ada

open Cert.AdaIdeal.Modul (arr final Fin3)
open Cert.AdaRefIdeal.Modul (res)
open Cert.Layer (Finite)

/-- The shapes of the precondition's comparisons. -/
instance preFacts : Cert.Pre_finite_ada.Facts where
  bcast_S_S16x1024 := by decide
  bcast_S_S4x1024x6144 := by decide

/-- The kernel as it is runs and leaves its arguments as they are. -/
theorem frame : Cert.quiescent_Ada := fun m ρ _ => Cert.Ada.Gen.frame m ρ

/-- So does the kernel read over the extended reals. -/
theorem frame_ideal : Cert.quiescent_AdaIdeal := fun m ρ _ => Cert.AdaIdeal.Gen.frame m ρ

/-- The same from such arguments. -/
theorem frame_ideal_finite : Cert.quiescent_AdaIdeal_pre_finite_ada := fun m ρ _ => Cert.AdaIdeal.Gen.frame m ρ

/-- So does the reference. -/
theorem frame_ref : Cert.quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The same from such arguments. -/
theorem frame_ref_finite : Cert.quiescent_AdaRefIdeal_pre_finite_ada := fun m ρ _ => frame_ref m ρ trivial

/-- The reading over the extended reals keeps the kernel's operations. -/
theorem preserves : Cert.preserves_Ada_AdaIdeal := trivial

/-- The precondition says that the conditioning rows hold no positive infinity and that the weights are finite. -/
theorem finite_of (m : (ℓ : Loc Cert.AdaIdeal.nD Cert.AdaIdeal.τ Cert.AdaIdeal.sig) → Buf (Elt Ideal) ℓ)
    (h : Cert.Pre_AdaIdeal_finite_ada m) (c : Dev Cert.AdaIdeal.nD) : Fin3 m c :=
  ⟨fun i => Finite.ne_top_of_lt _ (congrFun (h c).1 i), fun i => Finite.of_lt _ (congrFun (h c).2 i)⟩

/-- Over the extended reals the kernel's result is the reference's, where the conditioning rows hold no positive infinity and the
    weights are finite. -/
theorem algebraic : Cert.algebraic_AdaIdeal_AdaRefIdeal_pre_finite_ada := by
  intro m ρ m' ρ' hpre hagree
  refine ⟨arr m, (θ_run Cert.AdaIdeal.defs _ _).mono (fun r h c => ⟨(h c).1.trans (final m c (finite_of m hpre c)), (h c).2⟩)
    (Cert.AdaIdeal.Value.run_blocks m ρ), ?_⟩
  refine (θ_run Cert.AdaRefIdeal.defs _ _).mono (fun r h c => ?_) (Cert.AdaRefIdeal.Value.run (F := Ideal) m' ρ')
  obtain ⟨h0, hk⟩ := h c
  obtain ⟨a0, a1, a2⟩ := hagree c
  refine ⟨(h0.trans (Cert.AdaRefIdeal.Read.val_main_v40_eq ..)).trans ?_, hk⟩
  simp only [a0, a1, a2]
  funext i
  exact res _ _ _ i

end Cert.Proof.Ada
-- ==== Proof.RouterBlock.lean ====
/-
  What one grid point of the merge kernel computes for the router, over the extended reals: the normed and modulated rows
  against the router's weights, in three products, of the numbers and of their rests, and the softmax over the experts.
-/
module

public import proofs.«01_k».proof.Proof.AdaClaim
public import proofs.«01_k».proof.Proof.Gen.RouterIdeal.Frame

@[expose] public section

noncomputable section

open Idealize.ShloMosaic Idealize.ShloMosaic.TcCoe Idealize.SL.Sem

namespace Cert.Layer

/-- The greatest of sixteen numbers, and of the word of negative infinity. -/
def peak (l : Fin 16 → EReal) : EReal := Finset.fold max (Ideal.ofBits .f32 0xFF800000#32) l Finset.univ

/-- The softmax of sixteen numbers. -/
def probs (l : Fin 16 → EReal) (n : Fin 16) : EReal :=
  Ideal.div (Ideal.exp (l n - peak l)) (∑ k : Fin 16, Ideal.exp (l k - peak l))

/-- It is the same with negative infinity counted twice. -/
theorem probs_floor (l : Fin 16 → EReal) (n : Fin 16) :
    probs l n = Ideal.div (Ideal.exp (l n - max (Ideal.ofBits .f32 0xFF800000#32) (peak l)))
      (∑ k : Fin 16, Ideal.exp (l k - max (Ideal.ofBits .f32 0xFF800000#32) (peak l))) := by
  have hb : Ideal.ofBits .f32 0xFF800000#32 = ⊥ := by simp [Ideal.ofBits, Ideal.ieee]
  have hm : max (Ideal.ofBits .f32 0xFF800000#32) (peak l) = peak l := by rw [hb]; exact max_eq_right bot_le
  rw [hm]; rfl

end Cert.Layer

namespace Cert.RouterIdeal.Prob

open Cert.RouterIdeal Cert.RouterIdeal.Gen
open Cert.MergeIdeal.Sum (row)
open Cert.Layer (normed mixed added gateOf probs peak Finite)

variable (x0 x1 x2 : FVec Ideal S1x256x512 .f32) (x3 : FVec Ideal S1x256x3072 .f32) (x4 : FVec Ideal S1x256x1024 .f32)
  (x5 : FVec Ideal S1x1x6x1024 .f32) (x6 : FVec Ideal S1x1024 .f32) (x7 : FVec Ideal S3x512x1024 .bf16)
  (x8 : FVec Ideal S1024x1024 .bf16) (x9 : FVec Ideal S1024x16 .f32)

/-- The new residual rows as the body computes them. -/
theorem pay (r : Fin 256) (d : Fin 1024) :
    k0_pay13 (F := Ideal) x0 x1 x2 x3 x4 x5 x6 x7 x8 x9 (ix2 r d) = row x0 x1 x2 x3 x4 x5 x7 x8 r d := by
  unfold k0_pay13 k0_pay11 k0_pay10; unfold_payloads; unfold row added mixed gateOf; pointwise
  simp only [zero_sub]

/-- The modulation as the body reads it. -/
theorem pay_mod (i : Fin 6) (d : Fin 1024) : k0_pay12 (F := Ideal) x0 x1 x2 x3 x4 x5 x6 x7 x8 x9 (ix2 i d) = x5 (ix4 0 0 i d) := by
  unfold k0_pay12 k0_pay4; pointwise

/-- The normed and modulated rows. -/
theorem pay_norm (y : FVec Ideal S6x1024 .f32) (z : FVec Ideal S256x1024 .f32) (r : Fin 256) (d : Fin 1024) :
    k0_pay7 (F := Ideal) y z x6 (ix2 r d)
      = normed (fun k => z (ix2 r k)) (fun k => x6 (ix2 0 k)) (fun k => y (ix2 3 k)) (fun k => y (ix2 4 k)) d := by
  unfold k0_pay7 normed; pointwise

/-- The router's scores of a row in three products, less the greatest. -/
theorem pay_score (y : FVec Ideal S6x1024 .f32) (z : FVec Ideal S256x1024 .f32) (r : Fin 256) (n : Fin 16) (h : Fin 1024 → EReal)
    (hh : ∀ d, k0_pay7 (F := Ideal) y z x6 (ix2 r d) = h d) (hf : ∀ d, Finite (h d)) (hw : ∀ i, Finite (x9 i)) :
    k0_pay9 (F := Ideal) y z x6 x9 (ix2 r n)
      = (∑ d : Fin 1024, h d * x9 (ix2 d n)) - peak (fun k => ∑ d : Fin 1024, h d * x9 (ix2 d k)) := by
  have e : ∀ k : Fin 16, ∑ d : Fin 1024, h d * x9 (ix2 d k) = ∑ d : Fin 1024, k0_pay7 (F := Ideal) y z x6 (ix2 r d) * x9 (ix2 d k)
      + ∑ d : Fin 1024, (k0_pay7 (F := Ideal) y z x6 (ix2 r d) - k0_pay7 (F := Ideal) y z x6 (ix2 r d)) * x9 (ix2 d k)
      + ∑ d : Fin 1024, k0_pay7 (F := Ideal) y z x6 (ix2 r d) * (x9 (ix2 d k) - x9 (ix2 d k)) := fun k => by
    simp only [hh]
    exact (Cert.Layer.split hf fun d => hw (ix2 d k)).symm
  simp only [e]
  unfold k0_pay9 peak; pointwise

/-- The softmax of a row of scores from which the greatest is taken already. -/
theorem pay_soft (s : FVec Ideal S256x16 .f32) (r : Fin 256) (n : Fin 16) :
    k0_pay1 (F := Ideal) s (ix3 0 r n) = Ideal.div (Ideal.exp (s (ix2 r n))) (∑ k : Fin 16, Ideal.exp (s (ix2 r k))) := by
  unfold k0_pay1; pointwise

/-- Where the modulation, the gain and the router's weights are finite, the third output gets the softmax of the normed row against the router's weights. -/
theorem out12 (h5 : ∀ d, Finite (x5 (ix4 0 0 3 d)) ∧ Finite (x5 (ix4 0 0 4 d))) (h6 : ∀ i, Finite (x6 i)) (h9 : ∀ i, Finite (x9 i))
    (r : Fin 256) (n : Fin 16) :
    out0_12 (F := Ideal) x0 x1 x2 x3 x4 x5 x6 x7 x8 x9 (ix3 0 r n)
      = probs (fun k => ∑ d : Fin 1024, normed (row x0 x1 x2 x3 x4 x5 x7 x8 r) (fun d => x6 (ix2 0 d)) (fun d => x5 (ix4 0 0 3 d))
          (fun d => x5 (ix4 0 0 4 d)) d * x9 (ix2 d k)) n := by
  have hn : ∀ d, k0_pay7 (F := Ideal) (k0_pay12 x0 x1 x2 x3 x4 x5 x6 x7 x8 x9) (k0_pay13 x0 x1 x2 x3 x4 x5 x6 x7 x8 x9) x6 (ix2 r d)
      = normed (row x0 x1 x2 x3 x4 x5 x7 x8 r) (fun d => x6 (ix2 0 d)) (fun d => x5 (ix4 0 0 3 d)) (fun d => x5 (ix4 0 0 4 d)) d := fun d => by
    rw [pay_norm]
    simp only [pay, pay_mod]
  have hs := fun n => pay_score x6 x9 _ _ r n _ hn (Finite.normed _ (fun _ => h6 _) (fun d => (h5 d).1) (fun d => (h5 d).2)) h9
  unfold out0_12; frame_out
  refine (pay_soft _ r n).trans ?_
  unfold probs
  exact congrArg₂ Ideal.div (congrArg Ideal.exp (hs n)) (Finset.sum_congr rfl fun k _ => congrArg Ideal.exp (hs k))

end Cert.RouterIdeal.Prob
-- ==== Proof.RouterArray.lean ====
/-
  What the merge kernel's third result holds where the modulation of the norm, its gain and the router's
  weights are finite: for every row the router's probabilities over
  the experts, the softmax of the normed and modulated row against the router's weights.
-/
module

public import proofs.«01_k».proof.Proof.RouterBlock

@[expose] public section

noncomputable section

open Idealize.ShloMosaic Idealize.ShloMosaic.TcCoe Idealize.SL.Sem

namespace Cert.RouterIdeal.Prob

open Cert.RouterIdeal Cert.RouterIdeal.Gen
open Cert.MergeIdeal.Sum (row resid after)
open Cert.InprojIdeal.Proj (part)
open Cert.Layer (normed mixed added gateOf probs peak Finite)

/-- The router's scores of row `r` of sequence `e`. -/
def score (a b c : FVec Ideal S8x2304x512 .f32) (gl : FVec Ideal S8x2304x3072 .f32) (x : FVec Ideal S8x2304x1024 .f32)
    (mo : FVec Ideal S8x2x6x1024 .f32) (g : FVec Ideal S1024 .f32) (w : FVec Ideal S3x512x1024 .f32) (wo : FVec Ideal S1024x1024 .f32)
    (wr : FVec Ideal S1024x16 .f32) (e : Fin 8) (r : Fin 2304) (n : Fin 16) : EReal :=
  ∑ d : Fin 1024, after a b c gl x mo g w wo e r d * wr (ix2 d n)

/-- Which blocks a grid point reads and writes: the batch element is the point's number over nine, the run of 256 rows
    its remainder; the first run is the context's. -/
theorem idx : ∀ t : Fin cfg0.N,
    (win0_0.index t (0 : Fin 3) = t.val / 9 ∧ win0_0.index t (1 : Fin 3) = t.val % 9 ∧ win0_0.index t (2 : Fin 3) = 0)
    ∧ (win0_1.index t (0 : Fin 3) = t.val / 9 ∧ win0_1.index t (1 : Fin 3) = t.val % 9 ∧ win0_1.index t (2 : Fin 3) = 0)
    ∧ (win0_2.index t (0 : Fin 3) = t.val / 9 ∧ win0_2.index t (1 : Fin 3) = t.val % 9 ∧ win0_2.index t (2 : Fin 3) = 0)
    ∧ (win0_3.index t (0 : Fin 3) = t.val / 9 ∧ win0_3.index t (1 : Fin 3) = t.val % 9 ∧ win0_3.index t (2 : Fin 3) = 0)
    ∧ (win0_4.index t (0 : Fin 3) = t.val / 9 ∧ win0_4.index t (1 : Fin 3) = t.val % 9 ∧ win0_4.index t (2 : Fin 3) = 0)
    ∧ (win0_5.index t (0 : Fin 4) = t.val / 9 ∧ win0_5.index t (1 : Fin 4) = min (t.val % 9) 1 ∧ win0_5.index t (2 : Fin 4) = 0 ∧ win0_5.index t (3 : Fin 4) = 0)
    ∧ (win0_6.index t (0 : Fin 2) = 0 ∧ win0_6.index t (1 : Fin 2) = 0)
    ∧ (win0_7.index t (0 : Fin 3) = 0 ∧ win0_7.index t (1 : Fin 3) = 0 ∧ win0_7.index t (2 : Fin 3) = 0)
    ∧ (win0_8.index t (0 : Fin 2) = 0 ∧ win0_8.index t (1 : Fin 2) = 0)
    ∧ (win0_9.index t (0 : Fin 2) = 0 ∧ win0_9.index t (1 : Fin 2) = 0)
    ∧ (win0_12.index t (0 : Fin 3) = t.val / 9 ∧ win0_12.index t (1 : Fin 3) = t.val % 9 ∧ win0_12.index t (2 : Fin 3) = 0) :=
  (by decide +kernel : ∀ t : Fin grid0.N, _)

variable (m : (ℓ : Loc nD τ sig) → Buf (Elt Ideal) ℓ)

/-- The batch element of a point. -/
def bOf (t : Fin cfg0.N) : Fin 8 := ⟨t.val / 9, by have := t.isLt; have e : cfg0.N = 72 := rfl; omega⟩

/-- The row of the array that is a point's row `r`. -/
def rOf (t : Fin cfg0.N) (r : Fin 256) : Fin 2304 := ⟨t.val % 9 * 256 + r.val, by omega⟩

/-- Which modulation a point's rows take. -/
theorem part_rOf (t : Fin cfg0.N) (r : Fin 256) : (part (rOf t r)).val = min (t.val % 9) 1 := by
  unfold part rOf; split <;> rename_i h <;> simp at h ⊢ <;> omega

/-- The point's rows of the first branch. -/
theorem blk0 (c : Dev nD) (t : Fin cfg0.N) (r : Fin 256) (d : Fin 512) : (iblk m c 0 t : FVec Ideal S1x256x512 .f32) (ix3 0 r d)
    = (m ((c : Thread nD τ).loc main_arg0) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the second branch. -/
theorem blk1 (c : Dev nD) (t : Fin cfg0.N) (r : Fin 256) (d : Fin 512) : (iblk m c 1 t : FVec Ideal S1x256x512 .f32) (ix3 0 r d)
    = (m ((c : Thread nD τ).loc main_arg1) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the third branch. -/
theorem blk2 (c : Dev nD) (t : Fin cfg0.N) (r : Fin 256) (d : Fin 512) : (iblk m c 2 t : FVec Ideal S1x256x512 .f32) (ix3 0 r d)
    = (m ((c : Thread nD τ).loc main_arg2) : FVec Ideal S8x2304x512 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the gates. -/
theorem blk3 (c : Dev nD) (t : Fin cfg0.N) (r : Fin 256) (d : Fin 3072) : (iblk m c 3 t : FVec Ideal S1x256x3072 .f32) (ix3 0 r d)
    = (m ((c : Thread nD τ).loc main_arg3) : FVec Ideal S8x2304x3072 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The point's rows of the residual rows. -/
theorem blk4 (c : Dev nD) (t : Fin cfg0.N) (r : Fin 256) (d : Fin 1024) : (iblk m c 4 t : FVec Ideal S1x256x1024 .f32) (ix3 0 r d)
    = (m ((c : Thread nD τ).loc main_arg4) : FVec Ideal S8x2304x1024 .f32) (ix3 (bOf t) (rOf t r) d) := by
  have e := idx t
  have hp := part_rOf t r
  have hb : (bOf t).val = t.val / 9 := rfl
  have hr : (rOf t r).val = t.val % 9 * 256 + r.val := rfl
  blk_ext! [iblk, V, e, hp, hb, hr]

/-- The modulation of the point's rows. -/
theorem blk5 (c : Dev nD) (t : Fin cfg0.N) (r : Fin 256) (i : Fin 6) (d : Fin 1024) : (iblk m c 5 t : FVec Ideal S1x1x6x1024 .f32) (ix4 0 0 i d)
    = (m ((c : Thread nD τ).loc main_arg5) : FVec Ideal S8x2x6x1024 .f32) (ix4 (bOf t) (part (rOf t r)) i d) := by
  have e := idx t
  have hp := part_rOf t r
  have hb : (bOf t).val = t.val / 9 := rfl
  have hr : (rOf t r).val = t.val % 9 * 256 + r.val := rfl
  blk_ext! [iblk, V, e, hp, hb, hr]

/-- The norm's gain. -/
theorem blk6 (c : Dev nD) (t : Fin cfg0.N) (d : Fin 1024) : (iblk m c 6 t : FVec Ideal S1x1024 .f32) (ix2 0 d)
    = (m ((c : Thread nD τ).loc main_arg6) : FVec Ideal S1024 .f32) (ix1 d) := by
  have e := idx t
  blk_ext! [iblk, V, e]

/-- The branches' weights. -/
theorem blk7 (c : Dev nD) (t : Fin cfg0.N) (i : Fin 3) (d : Fin 512) (k : Fin 1024) : (iblk m c 7 t : FVec Ideal S3x512x1024 .bf16) (ix3 i d k)
    = (m ((c : Thread nD τ).loc main_arg7) : FVec Ideal S3x512x1024 .f32) (ix3 i d k) := by
  have e := idx t
  blk_ext! [iblk, V, e]

/-- The output weights. -/
theorem blk8 (c : Dev nD) (t : Fin cfg0.N) (k d : Fin 1024) : (iblk m c 8 t : FVec Ideal S1024x1024 .bf16) (ix2 k d)
    = (m ((c : Thread nD τ).loc main_arg8) : FVec Ideal S1024x1024 .f32) (ix2 k d) := by
  have e := idx t
  blk_ext! [iblk, V, e]

/-- The router's weights. -/
theorem blk9 (c : Dev nD) (t : Fin cfg0.N) (d : Fin 1024) (n : Fin 16) : (iblk m c 9 t : FVec Ideal S1024x16 .f32) (ix2 d n)
    = (m ((c : Thread nD τ).loc main_arg9) : FVec Ideal S1024x16 .f32) (ix2 d n) := by
  have e := idx t
  blk_ext! [iblk, V, e]

/-- The shift and the scale of the norm, its gain and the router's weights are finite. -/
def Fin3 (c : Dev nD) : Prop :=
  (∀ (b : Fin 8) (p : Fin 2) (d : Fin 1024),
      Finite ((m ((c : Thread nD τ).loc main_arg5) : FVec Ideal S8x2x6x1024 .f32) (ix4 b p 3 d))
        ∧ Finite ((m ((c : Thread nD τ).loc main_arg5) : FVec Ideal S8x2x6x1024 .f32) (ix4 b p 4 d)))
    ∧ (∀ i, Finite ((m ((c : Thread nD τ).loc main_arg6) : FVec Ideal S1024 .f32) i))
    ∧ ∀ i, Finite ((m ((c : Thread nD τ).loc main_arg9) : FVec Ideal S1024x16 .f32) i)

/-- An index of the block is its coordinates that vary. -/
theorem ix_blk6 (j : S1x1024.Idx) : j = ix2 (n0 := 1) (n1 := 1024) 0 (j 1) := by
  funext k
  match k with
  | 0 => exact Subsingleton.elim (α := Fin 1) _ _
  | 1 => rfl

/-- The point's block of argument 6 is finite. -/
theorem fin6 (c : Dev nD) (hf : Fin3 m c) (t : Fin cfg0.N) (i : S1x1024.Idx) :
    Finite ((iblk m c 6 t : FVec Ideal S1x1024 .f32) i) := by
  obtain ⟨p, rfl⟩ : ∃ (p : Fin 1024), i = ix2 0 p := ⟨i 1, ix_blk6 i⟩
  rw [blk6]
  exact hf.2.1 _

/-- The point's block of argument 9 is finite. -/
theorem fin9 (c : Dev nD) (hf : Fin3 m c) (t : Fin cfg0.N) (i : S1024x16.Idx) :
    Finite ((iblk m c 9 t : FVec Ideal S1024x16 .f32) i) := by
  obtain ⟨p, q, rfl⟩ : ∃ (p : Fin 1024) (q : Fin 16), i = ix2 p q := ⟨i 0, i 1, eq_ix2 i⟩
  rw [blk9]
  exact hf.2.2 _

/-- A point's new residual rows are rows of the launch's. -/
theorem row_eq (c : Dev nD) (t : Fin cfg0.N) (r : Fin 256) :
    row (iblk m c 0 t) (iblk m c 1 t) (iblk m c 2 t) (iblk m c 3 t) (iblk m c 4 t) (iblk m c 5 t) (iblk m c 7 t) (iblk m c 8 t) r
      = resid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (bOf t) (rOf t r) := by
  unfold row resid
  simp only [blk0, blk1, blk2, blk3, blk4, blk5 m c t r, blk7, blk8]

/-- The result array. -/
def arr12 (c : Dev nD) : Buf (Elt Ideal) ((c : Thread nD τ).loc main_v3_2) := fun i : S8x2304x16.Idx =>
  probs (score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (i 0) (i 1)) (i 2)

/-- An index of a block of the result is its row and its column. -/
theorem ix_block (j : S1x256x16.Idx) : j = ix3 (n0 := 1) (n1 := 256) (n2 := 16) 0 (j 1) (j 2) := by
  funext k
  match k with
  | 0 => exact Subsingleton.elim (α := Fin 1) _ _
  | 1 => rfl
  | 2 => rfl

/-- What a point writes. -/
theorem point12 (c : Dev nD) (hf : Fin3 m c) (t : Fin cfg0.N) (r : Fin 256) (n : Fin 16) (b' : Fin 8) (r' : Fin 2304) (n' : Fin 16)
    (hb : b'.val = t.val / 9) (hr : r'.val = t.val % 9 * 256 + r.val) (hn : n'.val = n.val) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 r n)
      = arr12 m c (ix3 b' r' n') := by
  obtain rfl : b' = bOf t := Fin.ext hb
  obtain rfl : r' = rOf t r := Fin.ext hr
  obtain rfl : n' = n := Fin.ext hn
  refine (out12 _ _ _ _ _ _ _ _ _ _ (fun d => ?_) (fin6 m c hf t) (fin9 m c hf t) r n').trans ?_
  · rw [blk5 m c t r, blk5 m c t r]; exact hf.1 _ _ d
  · simp only [row_eq, blk5 m c t r, blk6, blk9]
    rfl

/-- The result's array after the run. -/
theorem final12 (c : Dev nD) (hfin : Fin3 m c) : (dats m 0 c).arrAt 12 cfg0.N = arr12 m c := by
  refine (dats m 0 c).arrAt_eq_of_covers 12 _ (by decide +kernel) fun t hf y => ?_
  have e := idx t
  refine (congrFun (after0_12 m c t) y).trans ((congrArg _ (ix_block y)).trans
    ((point12 m c hfin t (y 1) (y 2) (bOf t) (rOf t (y 1)) (y 2) rfl rfl rfl).trans ?_))
  refine congrArg (arr12 m c) ?_
  have hb : (bOf t).val = t.val / 9 := rfl
  have hr : (rOf t (y 1)).val = t.val % 9 * 256 + (y 1).val := rfl
  blk_ext! [e, hb, hr]

/-- After the run the result holds this array and the arguments are as they were. -/
theorem run (hfin : ∀ c, Fin3 m c) (ρ : Dev nD → PrngReg) : θ_run defs (onTc (τ := τ) (main (F := Ideal))) ⟨m, fun _ => 0, ρ⟩ fun r => ∀ c : Dev nD,
      r.2.mem ((c : Thread nD τ).loc main_v3_2) = arr12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    have kept : ∀ w : Fin cfg0.W, (dats m 0 c).arrAt w cfg0.N = (dats m 0 c).A w →
        r.2.mem ((c : Thread nD τ).loc (Pipeline.arrRef spec0 w)) = V m c (Pipeline.arrRef spec0 w) :=
      fun w hw => ((h c).1 w).trans (hw.trans (A_eq m c w))
    have rest : ∀ b ∈ Pipeline.restRefs sig (cfgs 0).spec, r.2.mem ((c : Thread nD τ).loc b) = V m c b := (h c).2
    exact ⟨((h c).1 12).trans (final12 m c (hfin c)),
      (kept 0 ((dats m 0 c).arrAt_in 0 rfl _)).trans (V_main_arg0 m c),
      (kept 1 ((dats m 0 c).arrAt_in 1 rfl _)).trans (V_main_arg1 m c),
      (kept 2 ((dats m 0 c).arrAt_in 2 rfl _)).trans (V_main_arg2 m c),
      (kept 3 ((dats m 0 c).arrAt_in 3 rfl _)).trans (V_main_arg3 m c),
      (kept 4 ((dats m 0 c).arrAt_in 4 rfl _)).trans (V_main_arg4 m c),
      (kept 5 ((dats m 0 c).arrAt_in 5 rfl _)).trans (V_main_arg5 m c),
      (rest main_arg6 (Pipeline.mem_restRefs_of main_arg6 (by decide) (by decide))).trans (V_main_arg6 m c),
      (rest main_arg7 (Pipeline.mem_restRefs_of main_arg7 (by decide) (by decide))).trans (V_main_arg7 m c),
      (rest main_arg8 (Pipeline.mem_restRefs_of main_arg8 (by decide) (by decide))).trans (V_main_arg8 m c),
      (kept 9 ((dats m 0 c).arrAt_in 9 rfl _)).trans (V_main_arg9 m c)⟩) (run_main m ρ)

end Cert.RouterIdeal.Prob
-- ==== Proof.RouterRef.lean ====
/-
  What the plain router computes, entry by entry, over the extended reals: the softmax of the normed and modulated rows
  against the router's weights.
-/
module

public import proofs.«01_k».proof.Proof.RouterArray
public import proofs.«01_k».proof.Proof.Gen.RouterRefIdeal.Read

@[expose] public section

noncomputable section

open Idealize.ShloMosaic Idealize.ShloMosaic.TcCoe Idealize.SL.Sem

namespace Cert.RouterRefIdeal.Prob

open Cert.RouterRefIdeal Cert.RouterRefIdeal.Gen Cert.RouterRefIdeal.Read
open Cert.MergeIdeal.Sum (resid after)
open Cert.RouterIdeal.Prob (score)
open Cert.InprojIdeal.Proj (part)
open Cert.Layer (normed mixed added gateOf probs probs_floor peak)

variable (x0 x1 x2 : FVec Ideal S8x2304x512 .f32) (x3 : FVec Ideal S8x2304x3072 .f32) (x4 : FVec Ideal S8x2304x1024 .f32)
  (x5 : FVec Ideal S8x2x6x1024 .f32) (x6 : FVec Ideal S1024 .f32) (x7 : FVec Ideal S3x512x1024 .f32) (x8 : FVec Ideal S1024x1024 .f32)
  (x9 : FVec Ideal S1024x16 .f32)

/-- The residual rows of the context. -/
theorem context_resid (b : Fin 8) (r : Fin 256) (d : Fin 1024) :
    val_main_v34 (F := Ideal) x0 x1 x2 x3 x4 x5 x7 x8 (ix3 b r d) = resid x0 x1 x2 x3 x4 x5 x7 x8 b ⟨r.val, by omega⟩ d := by
  have hp : part ⟨r.val, by omega⟩ = 0 := by unfold part; simp
  unfold resid added mixed gateOf; rw [hp]
  pointwise [val_main_v34, val_main_v29, val_main_v33, val_main_v32, val_main_v30, val_main_v1, val_main_v0, val_main_v31, val_main_v28, val_main_v22, val_main_v16, val_main_v9, val_main_v8, val_main_v7, val_main_cst_0, val_main_v6, val_main_v5, val_main_cst, val_main_v4, val_main_v3, val_main_v2, val_main_v15, val_main_v12, val_main_v14, val_main_v13, val_main_v21, val_main_v10, val_main_v20, val_main_v17, val_main_v19, val_main_v18, val_main_v27, val_main_v11, val_main_v26, val_main_v23, val_main_v25, val_main_v24]

/-- The context's rows normed and modulated. -/
theorem context_after (b : Fin 8) (r : Fin 256) (d : Fin 1024) :
    val_main_v55 (F := Ideal) x0 x1 x2 x3 x4 x5 x6 x7 x8 (ix3 b r d) = after x0 x1 x2 x3 x4 x5 x6 x7 x8 b ⟨r.val, by omega⟩ d := by
  have hp : part ⟨r.val, by omega⟩ = 0 := by unfold part; simp
  unfold after normed; rw [hp]
  pointwise [val_main_v55, val_main_v53, val_main_v47, val_main_v44, val_main_v43, val_main_v42, val_main_v41, val_main_v39, val_main_v37, val_main_v36, val_main_v35, val_main_cst_1, val_main_v38, val_main_cst_2, val_main_v40, val_main_cst_3, val_main_v46, val_main_v45, val_main_v52, val_main_v51, val_main_v50, val_main_cst_4, val_main_v49, val_main_v1, val_main_v0, val_main_v54, val_main_v48]
  simp only [context_resid]

/-- The router's scores of the context's rows. -/
theorem context_score (b : Fin 8) (r : Fin 256) (n : Fin 16) :
    val_main_v56 (F := Ideal) x0 x1 x2 x3 x4 x5 x6 x7 x8 x9 (ix3 b r n) = score x0 x1 x2 x3 x4 x5 x6 x7 x8 x9 b ⟨r.val, by omega⟩ n := by
  unfold score
  pointwise [val_main_v56]
  exact Finset.sum_congr rfl fun d _ => congrArg (· * _) (context_after x0 x1 x2 x3 x4 x5 x6 x7 x8 b r d)

/-- The softmax of the scores of the context's rows. -/
theorem context_soft (b : Fin 8) (r : Fin 256) (n : Fin 16) :
    val_main_v67 (F := Ideal) x0 x1 x2 x3 x4 x5 x6 x7 x8 x9 (ix3 b r n) = probs (fun k => val_main_v56 (F := Ideal) x0 x1 x2 x3 x4 x5 x6 x7 x8 x9 (ix3 b r k)) n := by
  rw [probs_floor]
  unfold peak
  pointwise [val_main_v67, val_main_v63, val_main_v62, val_main_v61, val_main_v60, val_main_v59, val_main_v58, val_main_cst_6, val_main_v57, val_main_cst_5, val_main_v66, val_main_v65, val_main_v64, val_main_cst_7]

/-- The router's probabilities of the context's rows. -/
theorem context_probs (b : Fin 8) (r : Fin 256) (n : Fin 16) :
    val_main_v67 (F := Ideal) x0 x1 x2 x3 x4 x5 x6 x7 x8 x9 (ix3 b r n) = probs (score x0 x1 x2 x3 x4 x5 x6 x7 x8 x9 b ⟨r.val, by omega⟩) n :=
  (context_soft x0 x1 x2 x3 x4 x5 x6 x7 x8 x9 b r n).trans (congrArg (probs · n) (funext fun k => context_score x0 x1 x2 x3 x4 x5 x6 x7 x8 x9 b r k))

/-- The residual rows of the latents. -/
theorem latent_resid (b : Fin 8) (r : Fin 2048) (d : Fin 1024) :
    val_main_v102 (F := Ideal) x0 x1 x2 x3 x4 x5 x7 x8 (ix3 b r d) = resid x0 x1 x2 x3 x4 x5 x7 x8 b ⟨256 + r.val, by omega⟩ d := by
  have hp : part ⟨256 + r.val, by omega⟩ = 1 := by unfold part; simp
  unfold resid added mixed gateOf; rw [hp]
  pointwise [val_main_v102, val_main_v97, val_main_v101, val_main_v100, val_main_v98, val_main_v69, val_main_v68, val_main_v99, val_main_v96, val_main_v90, val_main_v84, val_main_v77, val_main_v76, val_main_v75, val_main_cst_9, val_main_v74, val_main_v73, val_main_cst_8, val_main_v72, val_main_v71, val_main_v70, val_main_v83, val_main_v80, val_main_v82, val_main_v81, val_main_v89, val_main_v78, val_main_v88, val_main_v85, val_main_v87, val_main_v86, val_main_v95, val_main_v79, val_main_v94, val_main_v91, val_main_v93, val_main_v92]

/-- The latents' rows normed and modulated. -/
theorem latent_after (b : Fin 8) (r : Fin 2048) (d : Fin 1024) :
    val_main_v123 (F := Ideal) x0 x1 x2 x3 x4 x5 x6 x7 x8 (ix3 b r d) = after x0 x1 x2 x3 x4 x5 x6 x7 x8 b ⟨256 + r.val, by omega⟩ d := by
  have hp : part ⟨256 + r.val, by omega⟩ = 1 := by unfold part; simp
  unfold after normed; rw [hp]
  pointwise [val_main_v123, val_main_v121, val_main_v115, val_main_v112, val_main_v111, val_main_v110, val_main_v109, val_main_v107, val_main_v105, val_main_v104, val_main_v103, val_main_cst_10, val_main_v106, val_main_cst_11, val_main_v108, val_main_cst_12, val_main_v114, val_main_v113, val_main_v120, val_main_v119, val_main_v118, val_main_cst_13, val_main_v117, val_main_v69, val_main_v68, val_main_v122, val_main_v116]
  simp only [latent_resid]

/-- The router's scores of the latents' rows. -/
theorem latent_score (b : Fin 8) (r : Fin 2048) (n : Fin 16) :
    val_main_v124 (F := Ideal) x0 x1 x2 x3 x4 x5 x6 x7 x8 x9 (ix3 b r n) = score x0 x1 x2 x3 x4 x5 x6 x7 x8 x9 b ⟨256 + r.val, by omega⟩ n := by
  unfold score
  pointwise [val_main_v124]
  exact Finset.sum_congr rfl fun d _ => congrArg (· * _) (latent_after x0 x1 x2 x3 x4 x5 x6 x7 x8 b r d)

/-- The softmax of the scores of the latents' rows. -/
theorem latent_soft (b : Fin 8) (r : Fin 2048) (n : Fin 16) :
    val_main_v135 (F := Ideal) x0 x1 x2 x3 x4 x5 x6 x7 x8 x9 (ix3 b r n) = probs (fun k => val_main_v124 (F := Ideal) x0 x1 x2 x3 x4 x5 x6 x7 x8 x9 (ix3 b r k)) n := by
  rw [probs_floor]
  unfold peak
  pointwise [val_main_v135, val_main_v131, val_main_v130, val_main_v129, val_main_v128, val_main_v127, val_main_v126, val_main_cst_15, val_main_v125, val_main_cst_14, val_main_v134, val_main_v133, val_main_v132, val_main_cst_16]

/-- The router's probabilities of the latents' rows. -/
theorem latent_probs (b : Fin 8) (r : Fin 2048) (n : Fin 16) :
    val_main_v135 (F := Ideal) x0 x1 x2 x3 x4 x5 x6 x7 x8 x9 (ix3 b r n) = probs (score x0 x1 x2 x3 x4 x5 x6 x7 x8 x9 b ⟨256 + r.val, by omega⟩) n :=
  (latent_soft x0 x1 x2 x3 x4 x5 x6 x7 x8 x9 b r n).trans (congrArg (probs · n) (funext fun k => latent_score x0 x1 x2 x3 x4 x5 x6 x7 x8 x9 b r k))

/-- The result: the router's probabilities, context rows first. -/
theorem res (i : S8x2304x16.Idx) : val_main_v136 (F := Ideal) x0 x1 x2 x3 x4 x5 x6 x7 x8 x9 i = probs (score x0 x1 x2 x3 x4 x5 x6 x7 x8 x9 (i 0) (i 1)) (i 2) := by
  pointwise [val_main_v136]
  split <;> rename_i h
  · exact context_probs x0 x1 x2 x3 x4 x5 x6 x7 x8 x9 _ _ _
  · refine (latent_probs x0 x1 x2 x3 x4 x5 x6 x7 x8 x9 _ _ _).trans ?_
    refine congrArg (fun q => probs (score x0 x1 x2 x3 x4 x5 x6 x7 x8 x9 (i 0) q) (i 2)) ?_
    exact Fin.ext (by simp; omega)

end Cert.RouterRefIdeal.Prob
-- ==== Proof.RouterClaim.lean ====
/-
  The claims of the merge kernel's third result, the router's probabilities: the kernel runs and leaves its arguments as
  they are, and where the modulation of the norm, its gain and the router's weights are finite its result is the
  reference's.
-/
module

public import proofs.«01_k».proof.Defs
public import proofs.«01_k».proof.Proof.RouterRef
public import proofs.«01_k».proof.Proof.Gen.RouterRefIdeal.Run
public import proofs.«01_k».proof.Proof.Gen.Router.Frame
public import Idealize.ShloMosaic.Adequacy
public import Idealize.ShloMosaic.Init

@[expose] public section

noncomputable section

open Idealize.ShloMosaic Idealize.ShloMosaic.TcCoe Idealize.SL.Sem

namespace Cert.Proof.Router

open Cert.RouterIdeal.Prob (arr12 Fin3 run)
open Cert.RouterRefIdeal.Prob (res)
open Cert.Layer (Finite)

/-- The shapes of the precondition's comparisons. -/
instance preFacts : Cert.Pre_finite_router.Facts where
  slices_S8x2x6x1024_S8x2x2x1024_0_0_3_0 := by decide
  bcast_S_S8x2x2x1024 := by decide
  bcast_S_S1024 := by decide
  bcast_S_S1024x16 := by decide

/-- The kernel as it is runs and leaves its arguments as they are. -/
theorem frame : Cert.quiescent_Router := fun m ρ _ => Cert.Router.Gen.frame m ρ

/-- So does the kernel read over the extended reals. -/
theorem frame_ideal : Cert.quiescent_RouterIdeal := fun m ρ _ => Cert.RouterIdeal.Gen.frame m ρ

/-- The same from such arguments. -/
theorem frame_ideal_finite : Cert.quiescent_RouterIdeal_pre_finite_router := fun m ρ _ => Cert.RouterIdeal.Gen.frame m ρ

/-- So does the reference. -/
theorem frame_ref : Cert.quiescent_RouterRefIdeal := fun m ρ _ =>
  (θ_run Cert.RouterRefIdeal.defs _ _).mono (fun r h => ⟨fun c => (h c).2, sem_eq_zero_of_no_sems (by decide) r.2⟩)
    (Cert.RouterRefIdeal.Value.run (F := Ideal) m ρ)

/-- The same from such arguments. -/
theorem frame_ref_finite : Cert.quiescent_RouterRefIdeal_pre_finite_router := fun m ρ _ => frame_ref m ρ trivial

/-- The reading over the extended reals keeps the kernel's operations. -/
theorem preserves : Cert.preserves_Router_RouterIdeal := trivial

/-- The rows from the third on of a modulation's six, at a row and a column. -/
theorem rows_at (x : FVec Ideal Cert.Pre_finite_router.S8x2x6x1024 .f32) (b : Fin 8) (p q : Fin 2) (q' : Fin 6)
    (hq : q'.val = 3 + q.val) (d : Fin 1024) :
    extractStridedSlice Cert.Pre_finite_router.S8x2x2x1024 ![0, 0, 3, 0] x
        Cert.Pre_finite_router.Facts.slices_S8x2x6x1024_S8x2x2x1024_0_0_3_0 (ix4 b p q d) = x (ix4 b p q' d) := by
  refine congrArg x (funext fun k => Fin.ext ?_)
  match k with
  | ⟨0, _⟩ => exact Nat.zero_add _
  | ⟨1, _⟩ => exact Nat.zero_add _
  | ⟨2, _⟩ => exact hq.symm
  | ⟨3, _⟩ => exact Nat.zero_add _

/-- The precondition says that the norm's shift, scale and gain and the router's weights are finite. -/
theorem finite_of (m : (ℓ : Loc Cert.RouterIdeal.nD Cert.RouterIdeal.τ Cert.RouterIdeal.sig) → Buf (Elt Ideal) ℓ)
    (h : Cert.Pre_RouterIdeal_finite_router m) (c : Dev Cert.RouterIdeal.nD) : Fin3 m c :=
  ⟨fun b p d =>
      ⟨(congrArg Cert.Layer.Finite (rows_at _ b p 0 3 rfl d)).mp (Finite.of_lt _ (congrFun (h c).1 (ix4 b p 0 d))),
        (congrArg Cert.Layer.Finite (rows_at _ b p 1 4 rfl d)).mp (Finite.of_lt _ (congrFun (h c).1 (ix4 b p 1 d)))⟩,
    fun i => Finite.of_lt _ (congrFun (h c).2.1 i), fun i => Finite.of_lt _ (congrFun (h c).2.2 i)⟩

/-- Over the extended reals the kernel's result is the reference's, from such arguments. -/
theorem algebraic : Cert.algebraic_RouterIdeal_RouterRefIdeal_pre_finite_router := by
  intro m ρ m' ρ' hpre hagree
  refine ⟨arr12 m, run m (finite_of m hpre) ρ, ?_⟩
  refine (θ_run Cert.RouterRefIdeal.defs _ _).mono (fun r h c => ?_) (Cert.RouterRefIdeal.Value.run (F := Ideal) m' ρ')
  obtain ⟨h0, hk⟩ := h c
  obtain ⟨a0, a1, a2, a3, a4, a5, a6, a7, a8, a9⟩ := hagree c
  refine ⟨(h0.trans (Cert.RouterRefIdeal.Read.val_main_v136_eq ..)).trans ?_, hk⟩
  simp only [a0, a1, a2, a3, a4, a5, a6, a7, a8, a9]
  funext i
  exact res _ _ _ _ _ _ _ _ _ _ i

end Cert.Proof.Router
-- ==== Proof.SwaClaim.lean ====
/-
  The claims of the sliding window attention: the kernel runs from any arguments, stays inside its arrays and leaves its
  arguments as they are.
-/
module

public import proofs.«01_k».proof.Defs
public import proofs.«01_k».proof.Proof.RouterClaim
public import proofs.«01_k».proof.Proof.Gen.Swa.Frame
public import proofs.«01_k».proof.Proof.Gen.SwaIdeal.Frame

@[expose] public section

noncomputable section

open Idealize.ShloMosaic Idealize.ShloMosaic.TcCoe Idealize.SL.Sem

namespace Cert.Proof.Swa

/-- The kernel as it is runs and leaves its arguments as they are. -/
theorem frame : Cert.quiescent_Swa := fun m ρ _ => Cert.Swa.Gen.frame m ρ

/-- So does the kernel read over the extended reals. -/
theorem frame_ideal : Cert.quiescent_SwaIdeal := fun m ρ _ => Cert.SwaIdeal.Gen.frame m ρ

/-- The reading over the extended reals keeps the kernel's operations. -/
theorem preserves : Cert.preserves_Swa_SwaIdeal := trivial

end Cert.Proof.Swa
-- ==== Proof.lean ====
/- The proof of the certificate's claim: the facts the programs state and, program by program, the claims proved in Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.FfnClaim
public import proofs.«01_k».proof.Proof.InprojClaim
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.InprojRefIdeal
public import proofs.«01_k».proof.Proof.MergeClaim
public import proofs.«01_k».proof.Proof.ScatterClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal.Run
public import proofs.«01_k».proof.Proof.Gen.MergeRefIdeal.Read
public import proofs.«01_k».proof.Proof.Gen.MergeRefIdeal
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterIdeal.Value
public import proofs.«01_k».proof.Proof.Gen.ScatterRefIdeal.Run
public import proofs.«01_k».proof.Proof.Gen.ScatterRefIdeal.Read
public import proofs.«01_k».proof.Proof.Gen.ScatterRefIdeal
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherIdeal.Value
public import proofs.«01_k».proof.Proof.Gen.GatherRefIdeal.Run
public import proofs.«01_k».proof.Proof.Gen.GatherRefIdeal.Read
public import proofs.«01_k».proof.Proof.Gen.GatherRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.AdaRefIdeal
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterRefIdeal.Run
public import proofs.«01_k».proof.Proof.Gen.RouterRefIdeal.Read
public import proofs.«01_k».proof.Proof.Gen.RouterRefIdeal
public import proofs.«01_k».proof.Proof.Gen.Swa
public import proofs.«01_k».proof.Proof.Gen.Swa.Skeleton
public import proofs.«01_k».proof.Proof.Gen.Swa.Loops
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Loops
public import proofs.«01_k».proof.Proof.Gen.SwaIdeal.Launch
public import proofs.«01_k».proof.Proof.Gen.SwaIdeal.Points
public import proofs.«01_k».proof.Proof.Gen.SwaIdeal.Frame
public import proofs.«01_k».proof.Proof.RouterClaim
public import proofs.«01_k».proof.Proof.SwaClaim
public import Idealize.ShloMosaic.Adequacy
public import Idealize.ShloMosaic.Init

@[expose] public section

noncomputable section

-- Each program's frame also says that every semaphore counter ends at zero.

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Inproj.Gen.facts, Cert.InprojIdeal.Gen.facts, Cert.InprojRefIdeal.Gen.facts,
  Cert.Merge.Gen.facts, Cert.MergeIdeal.Gen.facts, Cert.MergeRefIdeal.Gen.facts,
  Cert.Scatter.Gen.facts, Cert.ScatterIdeal.Gen.facts, Cert.ScatterRefIdeal.Gen.facts,
  Cert.Gather.Gen.facts, Cert.GatherIdeal.Gen.facts, Cert.GatherRefIdeal.Gen.facts,
  Cert.Ada.Gen.facts, Cert.AdaIdeal.Gen.facts, Cert.AdaRefIdeal.Gen.facts,
  Cert.Router.Gen.facts, Cert.RouterIdeal.Gen.facts, Cert.RouterRefIdeal.Gen.facts,
  Cert.Swa.Gen.facts, Cert.SwaIdeal.Gen.facts,
  Ada.preFacts, Router.preFacts,
  Ffn.frame, Ffn.frame_ideal, Ffn.frame_ref, Inproj.frame, Inproj.frame_ideal, Inproj.frame_ref,
  Merge.frame, Merge.frame_ideal, Merge.frame_ref,
  Scatter.frame, Scatter.frame_ideal, Scatter.frame_ref,
  Gather.frame, Gather.frame_ideal, Gather.frame_ref,
  Ada.frame, Ada.frame_ideal, Ada.frame_ideal_finite, Ada.frame_ref, Ada.frame_ref_finite,
  Router.frame, Router.frame_ideal, Router.frame_ideal_finite, Router.frame_ref, Router.frame_ref_finite,
  Swa.frame, Swa.frame_ideal,
  Ffn.preserves, Ffn.algebraic, Inproj.preserves, Inproj.algebraic, Merge.preserves, Merge.algebraic,
  Scatter.preserves, Scatter.algebraic, Gather.preserves, Gather.algebraic, Ada.preserves, Ada.algebraic,
  Router.preserves, Router.algebraic,
  Swa.preserves⟩

end Cert.Proof

end
